-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v241) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S56x64 : Shape := ⟨2, ![56, 64]⟩
abbrev S28x128 : Shape := ⟨2, ![28, 128]⟩
abbrev S14x256 : Shape := ⟨2, ![14, 256]⟩
abbrev S7x512 : Shape := ⟨2, ![7, 512]⟩
abbrev S100000x3 : Shape := ⟨2, ![100000, 3]⟩
abbrev S2x256 : Shape := ⟨2, ![2, 256]⟩
abbrev S8x256 : Shape := ⟨2, ![8, 256]⟩
abbrev S100000x963 : Shape := ⟨2, ![100000, 963]⟩
abbrev S64x3 : Shape := ⟨2, ![64, 3]⟩
abbrev S2000x3 : Shape := ⟨2, ![2000, 3]⟩
abbrev S2000x963 : Shape := ⟨2, ![2000, 963]⟩
abbrev S2000x1 : Shape := ⟨2, ![2000, 1]⟩
abbrev S64x1 : Shape := ⟨2, ![64, 1]⟩
abbrev S2000x2 : Shape := ⟨2, ![2000, 2]⟩
abbrev S2000x256 : Shape := ⟨2, ![2000, 256]⟩
abbrev S2000x8 : Shape := ⟨2, ![2000, 8]⟩
abbrev S64x56 : Shape := ⟨2, ![64, 56]⟩
abbrev S128x56 : Shape := ⟨2, ![128, 56]⟩
abbrev S128x64 : Shape := ⟨2, ![128, 64]⟩
abbrev S2000x128 : Shape := ⟨2, ![2000, 128]⟩
abbrev S2000x64 : Shape := ⟨2, ![2000, 64]⟩
abbrev S32x1 : Shape := ⟨2, ![32, 1]⟩
abbrev S32x28 : Shape := ⟨2, ![32, 28]⟩
abbrev S64x28 : Shape := ⟨2, ![64, 28]⟩
abbrev S64x128 : Shape := ⟨2, ![64, 128]⟩
abbrev S16x1 : Shape := ⟨2, ![16, 1]⟩
abbrev S16x14 : Shape := ⟨2, ![16, 14]⟩
abbrev S32x14 : Shape := ⟨2, ![32, 14]⟩
abbrev S32x256 : Shape := ⟨2, ![32, 256]⟩
abbrev S2000x32 : Shape := ⟨2, ![2000, 32]⟩
abbrev S8x1 : Shape := ⟨2, ![8, 1]⟩
abbrev S8x7 : Shape := ⟨2, ![8, 7]⟩
abbrev S16x7 : Shape := ⟨2, ![16, 7]⟩
abbrev S16x512 : Shape := ⟨2, ![16, 512]⟩
abbrev S2000x16 : Shape := ⟨2, ![2000, 16]⟩
abbrev S2000x512 : Shape := ⟨2, ![2000, 512]⟩

abbrev nBuf : Space → Nat
  | .hbm => 8
  | .vmem => 11
  | .smem => 0
  | _ => 0

abbrev bufTy : (tb : Table) → Fin (tcTables nBuf tb) → BufTy
  | .hbm, ⟨0, _⟩ => ⟨S56x64, .f32⟩
  | .hbm, ⟨1, _⟩ => ⟨S28x128, .f32⟩
  | .hbm, ⟨2, _⟩ => ⟨S14x256, .f32⟩
  | .hbm, ⟨3, _⟩ => ⟨S7x512, .f32⟩
  | .hbm, ⟨4, _⟩ => ⟨S100000x3, .f32⟩
  | .hbm, ⟨5, _⟩ => ⟨S2x256, .f32⟩
  | .hbm, ⟨6, _⟩ => ⟨S8x256, .f32⟩
  | .hbm, ⟨7, _⟩ => ⟨S100000x963, .f32⟩
  | .local _ .vmem, ⟨0, _⟩ => ⟨S64x3, .f32⟩
  | .local _ .vmem, ⟨1, _⟩ => ⟨S56x64, .f32⟩
  | .local _ .vmem, ⟨2, _⟩ => ⟨S28x128, .f32⟩
  | .local _ .vmem, ⟨3, _⟩ => ⟨S14x256, .f32⟩
  | .local _ .vmem, ⟨4, _⟩ => ⟨S7x512, .f32⟩
  | .local _ .vmem, ⟨5, _⟩ => ⟨S2x256, .f32⟩
  | .local _ .vmem, ⟨6, _⟩ => ⟨S8x256, .f32⟩
  | .local _ .vmem, ⟨7, _⟩ => ⟨S2000x3, .f32⟩
  | .local _ .vmem, ⟨8, _⟩ => ⟨S2000x3, .f32⟩
  | .local _ .vmem, ⟨9, _⟩ => ⟨S2000x963, .f32⟩
  | .local _ .vmem, ⟨10, _⟩ => ⟨S2000x963, .f32⟩
  | _, _ => ⟨S56x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_cst_0 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S56x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S28x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S14x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x963 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S56x64 : Shape := ⟨2, ![56, 64]⟩
abbrev S28x128 : Shape := ⟨2, ![28, 128]⟩
abbrev S14x256 : Shape := ⟨2, ![14, 256]⟩
abbrev S7x512 : Shape := ⟨2, ![7, 512]⟩
abbrev S100000x3 : Shape := ⟨2, ![100000, 3]⟩
abbrev S100000x1 : Shape := ⟨2, ![100000, 1]⟩
abbrev S100000 : Shape := ⟨1, ![100000]⟩
abbrev S_ : Shape := ⟨0, ![]⟩
abbrev S100000x64 : Shape := ⟨2, ![100000, 64]⟩
abbrev S100000x128 : Shape := ⟨2, ![100000, 128]⟩
abbrev S100000x256 : Shape := ⟨2, ![100000, 256]⟩
abbrev S100000x512 : Shape := ⟨2, ![100000, 512]⟩
abbrev S100000x963 : Shape := ⟨2, ![100000, 963]⟩

abbrev nBuf : Space → Nat
  | .hbm => 305
  | .vmem => 0
  | .smem => 0
  | _ => 0

abbrev hbmTy0_0 (i : Nat) : BufTy := match i % 128 with
  | 0 => ⟨S56x64, .f32⟩
  | 1 => ⟨S28x128, .f32⟩
  | 2 => ⟨S14x256, .f32⟩
  | 3 => ⟨S7x512, .f32⟩
  | 4 => ⟨S100000x3, .f32⟩
  | 5 => ⟨S100000x1, .f32⟩
  | 6 => ⟨S100000, .f32⟩
  | 7 => ⟨S100000x1, .f32⟩
  | 8 => ⟨S100000, .f32⟩
  | 9 => ⟨S100000, .f32⟩
  | 10 => ⟨S_, .f32⟩
  | 11 => ⟨S100000, .f32⟩
  | 12 => ⟨S100000, .f32⟩
  | 13 => ⟨S_, .f32⟩
  | 14 => ⟨S100000, .f32⟩
  | 15 => ⟨S100000, .f32⟩
  | 16 => ⟨S100000x1, .f32⟩
  | 17 => ⟨S100000, .f32⟩
  | 18 => ⟨S100000x1, .f32⟩
  | 19 => ⟨S100000, .f32⟩
  | 20 => ⟨S100000, .f32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .f32⟩
  | 29 => ⟨S_, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .f32⟩
  | 36 => ⟨S_, .f32⟩
  | 37 => ⟨S_, .f32⟩
  | 38 => ⟨S_, .f32⟩
  | 39 => ⟨S100000, .f32⟩
  | 40 => ⟨S100000, .f32⟩
  | 41 => ⟨S_, .f32⟩
  | 42 => ⟨S100000, .f32⟩
  | 43 => ⟨S100000, .f32⟩
  | 44 => ⟨S_, .f32⟩
  | 45 => ⟨S100000, .f32⟩
  | 46 => ⟨S100000, .f32⟩
  | 47 => ⟨S_, .f32⟩
  | 48 => ⟨S100000, .f32⟩
  | 49 => ⟨S100000, .f32⟩
  | 50 => ⟨S100000, .f32⟩
  | 51 => ⟨S100000, .i32⟩
  | 52 => ⟨S100000, .f32⟩
  | 53 => ⟨S100000, .i32⟩
  | 54 => ⟨S100000, .f32⟩
  | 55 => ⟨S100000, .i32⟩
  | 56 => ⟨S100000, .f32⟩
  | 57 => ⟨S100000, .i32⟩
  | 58 => ⟨S100000x1, .i32⟩
  | 59 => ⟨S100000x64, .f32⟩
  | 60 => ⟨S100000x1, .i32⟩
  | 61 => ⟨S100000x64, .f32⟩
  | 62 => ⟨S100000x1, .i32⟩
  | 63 => ⟨S100000x64, .f32⟩
  | 64 => ⟨S100000x1, .i32⟩
  | 65 => ⟨S100000x64, .f32⟩
  | 66 => ⟨S100000x1, .i32⟩
  | 67 => ⟨S100000x64, .f32⟩
  | 68 => ⟨S100000x1, .i32⟩
  | 69 => ⟨S100000x64, .f32⟩
  | 70 => ⟨S100000x1, .i32⟩
  | 71 => ⟨S100000x64, .f32⟩
  | 72 => ⟨S100000x1, .i32⟩
  | 73 => ⟨S100000x64, .f32⟩
  | 74 => ⟨S100000, .f32⟩
  | 75 => ⟨S100000, .f32⟩
  | 76 => ⟨S100000, .f32⟩
  | 77 => ⟨S100000, .f32⟩
  | 78 => ⟨S100000, .f32⟩
  | 79 => ⟨S100000x1, .f32⟩
  | 80 => ⟨S100000x64, .f32⟩
  | 81 => ⟨S100000x64, .f32⟩
  | 82 => ⟨S100000, .f32⟩
  | 83 => ⟨S100000, .f32⟩
  | 84 => ⟨S100000, .f32⟩
  | 85 => ⟨S100000, .f32⟩
  | 86 => ⟨S100000, .f32⟩
  | 87 => ⟨S100000x1, .f32⟩
  | 88 => ⟨S100000x64, .f32⟩
  | 89 => ⟨S100000x64, .f32⟩
  | 90 => ⟨S100000, .f32⟩
  | 91 => ⟨S100000, .f32⟩
  | 92 => ⟨S100000, .f32⟩
  | 93 => ⟨S100000, .f32⟩
  | 94 => ⟨S100000, .f32⟩
  | 95 => ⟨S100000x1, .f32⟩
  | 96 => ⟨S100000x64, .f32⟩
  | 97 => ⟨S100000x64, .f32⟩
  | 98 => ⟨S100000, .f32⟩
  | 99 => ⟨S100000, .f32⟩
  | 100 => ⟨S100000, .f32⟩
  | 101 => ⟨S100000, .f32⟩
  | 102 => ⟨S100000, .f32⟩
  | 103 => ⟨S100000x1, .f32⟩
  | 104 => ⟨S100000x64, .f32⟩
  | 105 => ⟨S100000x64, .f32⟩
  | 106 => ⟨S100000x64, .f32⟩
  | 107 => ⟨S100000x64, .f32⟩
  | 108 => ⟨S100000x64, .f32⟩
  | 109 => ⟨S_, .f32⟩
  | 110 => ⟨S100000, .f32⟩
  | 111 => ⟨S100000, .f32⟩
  | 112 => ⟨S_, .f32⟩
  | 113 => ⟨S100000, .f32⟩
  | 114 => ⟨S100000, .f32⟩
  | 115 => ⟨S100000, .f32⟩
  | 116 => ⟨S100000, .i32⟩
  | 117 => ⟨S100000, .f32⟩
  | 118 => ⟨S100000, .i32⟩
  | 119 => ⟨S100000, .f32⟩
  | 120 => ⟨S100000, .i32⟩
  | 121 => ⟨S100000, .f32⟩
  | 122 => ⟨S100000, .i32⟩
  | 123 => ⟨S100000x1, .i32⟩
  | 124 => ⟨S100000x128, .f32⟩
  | 125 => ⟨S100000x1, .i32⟩
  | 126 => ⟨S100000x128, .f32⟩
  | 127 => ⟨S100000x1, .i32⟩
  | _ => ⟨S56x64, .f32⟩

abbrev hbmTy0_1 (i : Nat) : BufTy := match i % 128 with
  | 0 => ⟨S100000x128, .f32⟩
  | 1 => ⟨S100000x1, .i32⟩
  | 2 => ⟨S100000x128, .f32⟩
  | 3 => ⟨S100000x1, .i32⟩
  | 4 => ⟨S100000x128, .f32⟩
  | 5 => ⟨S100000x1, .i32⟩
  | 6 => ⟨S100000x128, .f32⟩
  | 7 => ⟨S100000x1, .i32⟩
  | 8 => ⟨S100000x128, .f32⟩
  | 9 => ⟨S100000x1, .i32⟩
  | 10 => ⟨S100000x128, .f32⟩
  | 11 => ⟨S100000, .f32⟩
  | 12 => ⟨S100000, .f32⟩
  | 13 => ⟨S100000, .f32⟩
  | 14 => ⟨S100000, .f32⟩
  | 15 => ⟨S100000, .f32⟩
  | 16 => ⟨S100000x1, .f32⟩
  | 17 => ⟨S100000x128, .f32⟩
  | 18 => ⟨S100000x128, .f32⟩
  | 19 => ⟨S100000, .f32⟩
  | 20 => ⟨S100000, .f32⟩
  | 21 => ⟨S100000, .f32⟩
  | 22 => ⟨S100000, .f32⟩
  | 23 => ⟨S100000, .f32⟩
  | 24 => ⟨S100000x1, .f32⟩
  | 25 => ⟨S100000x128, .f32⟩
  | 26 => ⟨S100000x128, .f32⟩
  | 27 => ⟨S100000, .f32⟩
  | 28 => ⟨S100000, .f32⟩
  | 29 => ⟨S100000, .f32⟩
  | 30 => ⟨S100000, .f32⟩
  | 31 => ⟨S100000, .f32⟩
  | 32 => ⟨S100000x1, .f32⟩
  | 33 => ⟨S100000x128, .f32⟩
  | 34 => ⟨S100000x128, .f32⟩
  | 35 => ⟨S100000, .f32⟩
  | 36 => ⟨S100000, .f32⟩
  | 37 => ⟨S100000, .f32⟩
  | 38 => ⟨S100000, .f32⟩
  | 39 => ⟨S100000, .f32⟩
  | 40 => ⟨S100000x1, .f32⟩
  | 41 => ⟨S100000x128, .f32⟩
  | 42 => ⟨S100000x128, .f32⟩
  | 43 => ⟨S100000x128, .f32⟩
  | 44 => ⟨S100000x128, .f32⟩
  | 45 => ⟨S100000x128, .f32⟩
  | 46 => ⟨S_, .f32⟩
  | 47 => ⟨S100000, .f32⟩
  | 48 => ⟨S100000, .f32⟩
  | 49 => ⟨S_, .f32⟩
  | 50 => ⟨S100000, .f32⟩
  | 51 => ⟨S100000, .f32⟩
  | 52 => ⟨S100000, .f32⟩
  | 53 => ⟨S100000, .i32⟩
  | 54 => ⟨S100000, .f32⟩
  | 55 => ⟨S100000, .i32⟩
  | 56 => ⟨S100000, .f32⟩
  | 57 => ⟨S100000, .i32⟩
  | 58 => ⟨S100000, .f32⟩
  | 59 => ⟨S100000, .i32⟩
  | 60 => ⟨S100000x1, .i32⟩
  | 61 => ⟨S100000x256, .f32⟩
  | 62 => ⟨S100000x1, .i32⟩
  | 63 => ⟨S100000x256, .f32⟩
  | 64 => ⟨S100000x1, .i32⟩
  | 65 => ⟨S100000x256, .f32⟩
  | 66 => ⟨S100000x1, .i32⟩
  | 67 => ⟨S100000x256, .f32⟩
  | 68 => ⟨S100000x1, .i32⟩
  | 69 => ⟨S100000x256, .f32⟩
  | 70 => ⟨S100000x1, .i32⟩
  | 71 => ⟨S100000x256, .f32⟩
  | 72 => ⟨S100000x1, .i32⟩
  | 73 => ⟨S100000x256, .f32⟩
  | 74 => ⟨S100000x1, .i32⟩
  | 75 => ⟨S100000x256, .f32⟩
  | 76 => ⟨S100000, .f32⟩
  | 77 => ⟨S100000, .f32⟩
  | 78 => ⟨S100000, .f32⟩
  | 79 => ⟨S100000, .f32⟩
  | 80 => ⟨S100000, .f32⟩
  | 81 => ⟨S100000x1, .f32⟩
  | 82 => ⟨S100000x256, .f32⟩
  | 83 => ⟨S100000x256, .f32⟩
  | 84 => ⟨S100000, .f32⟩
  | 85 => ⟨S100000, .f32⟩
  | 86 => ⟨S100000, .f32⟩
  | 87 => ⟨S100000, .f32⟩
  | 88 => ⟨S100000, .f32⟩
  | 89 => ⟨S100000x1, .f32⟩
  | 90 => ⟨S100000x256, .f32⟩
  | 91 => ⟨S100000x256, .f32⟩
  | 92 => ⟨S100000, .f32⟩
  | 93 => ⟨S100000, .f32⟩
  | 94 => ⟨S100000, .f32⟩
  | 95 => ⟨S100000, .f32⟩
  | 96 => ⟨S100000, .f32⟩
  | 97 => ⟨S100000x1, .f32⟩
  | 98 => ⟨S100000x256, .f32⟩
  | 99 => ⟨S100000x256, .f32⟩
  | 100 => ⟨S100000, .f32⟩
  | 101 => ⟨S100000, .f32⟩
  | 102 => ⟨S100000, .f32⟩
  | 103 => ⟨S100000, .f32⟩
  | 104 => ⟨S100000, .f32⟩
  | 105 => ⟨S100000x1, .f32⟩
  | 106 => ⟨S100000x256, .f32⟩
  | 107 => ⟨S100000x256, .f32⟩
  | 108 => ⟨S100000x256, .f32⟩
  | 109 => ⟨S100000x256, .f32⟩
  | 110 => ⟨S100000x256, .f32⟩
  | 111 => ⟨S_, .f32⟩
  | 112 => ⟨S100000, .f32⟩
  | 113 => ⟨S100000, .f32⟩
  | 114 => ⟨S_, .f32⟩
  | 115 => ⟨S100000, .f32⟩
  | 116 => ⟨S100000, .f32⟩
  | 117 => ⟨S100000, .f32⟩
  | 118 => ⟨S100000, .i32⟩
  | 119 => ⟨S100000, .f32⟩
  | 120 => ⟨S100000, .i32⟩
  | 121 => ⟨S100000, .f32⟩
  | 122 => ⟨S100000, .i32⟩
  | 123 => ⟨S100000, .f32⟩
  | 124 => ⟨S100000, .i32⟩
  | 125 => ⟨S100000x1, .i32⟩
  | 126 => ⟨S100000x512, .f32⟩
  | 127 => ⟨S100000x1, .i32⟩
  | _ => ⟨S56x64, .f32⟩

abbrev hbmTy0_2 (i : Nat) : BufTy := match i % 128 with
  | 0 => ⟨S100000x512, .f32⟩
  | 1 => ⟨S100000x1, .i32⟩
  | 2 => ⟨S100000x512, .f32⟩
  | 3 => ⟨S100000x1, .i32⟩
  | 4 => ⟨S100000x512, .f32⟩
  | 5 => ⟨S100000x1, .i32⟩
  | 6 => ⟨S100000x512, .f32⟩
  | 7 => ⟨S100000x1, .i32⟩
  | 8 => ⟨S100000x512, .f32⟩
  | 9 => ⟨S100000x1, .i32⟩
  | 10 => ⟨S100000x512, .f32⟩
  | 11 => ⟨S100000x1, .i32⟩
  | 12 => ⟨S100000x512, .f32⟩
  | 13 => ⟨S100000, .f32⟩
  | 14 => ⟨S100000, .f32⟩
  | 15 => ⟨S100000, .f32⟩
  | 16 => ⟨S100000, .f32⟩
  | 17 => ⟨S100000, .f32⟩
  | 18 => ⟨S100000x1, .f32⟩
  | 19 => ⟨S100000x512, .f32⟩
  | 20 => ⟨S100000x512, .f32⟩
  | 21 => ⟨S100000, .f32⟩
  | 22 => ⟨S100000, .f32⟩
  | 23 => ⟨S100000, .f32⟩
  | 24 => ⟨S100000, .f32⟩
  | 25 => ⟨S100000, .f32⟩
  | 26 => ⟨S100000x1, .f32⟩
  | 27 => ⟨S100000x512, .f32⟩
  | 28 => ⟨S100000x512, .f32⟩
  | 29 => ⟨S100000, .f32⟩
  | 30 => ⟨S100000, .f32⟩
  | 31 => ⟨S100000, .f32⟩
  | 32 => ⟨S100000, .f32⟩
  | 33 => ⟨S100000, .f32⟩
  | 34 => ⟨S100000x1, .f32⟩
  | 35 => ⟨S100000x512, .f32⟩
  | 36 => ⟨S100000x512, .f32⟩
  | 37 => ⟨S100000, .f32⟩
  | 38 => ⟨S100000, .f32⟩
  | 39 => ⟨S100000, .f32⟩
  | 40 => ⟨S100000, .f32⟩
  | 41 => ⟨S100000, .f32⟩
  | 42 => ⟨S100000x1, .f32⟩
  | 43 => ⟨S100000x512, .f32⟩
  | 44 => ⟨S100000x512, .f32⟩
  | 45 => ⟨S100000x512, .f32⟩
  | 46 => ⟨S100000x512, .f32⟩
  | 47 => ⟨S100000x512, .f32⟩
  | 48 => ⟨S100000x963, .f32⟩
  | _ => ⟨S56x64, .f32⟩

abbrev hbmTy (i : Nat) : BufTy := match i / 128 with
  | 0 => hbmTy0_0 i
  | 1 => hbmTy0_1 i
  | 2 => hbmTy0_2 i
  | _ => ⟨S56x64, .f32⟩

abbrev bufTy : (tb : Table) → Fin (tcTables nBuf tb) → BufTy
  | .hbm, ⟨i, _⟩ => hbmTy i
  | _, _ => ⟨S56x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v19 : Ref sig .tc := ⟨.hbm, 35, rfl⟩
abbrev main_cst_5 : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v20 : Ref sig .tc := ⟨.hbm, 43, rfl⟩
abbrev main_cst_7 : Ref sig .tc := ⟨.hbm, 44, rfl⟩
abbrev main_v21 : Ref sig .tc := ⟨.hbm, 45, rfl⟩
abbrev main_v22 : Ref sig .tc := ⟨.hbm, 46, rfl⟩
abbrev main_cst_8 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call2_v0 : Ref sig .tc := ⟨.hbm, 58, rfl⟩
abbrev main_v33 : Ref sig .tc := ⟨.hbm, 59, rfl⟩
abbrev main_call3_v0 : Ref sig .tc := ⟨.hbm, 60, rfl⟩
abbrev main_v34 : Ref sig .tc := ⟨.hbm, 61, rfl⟩
abbrev main_call4_v0 : Ref sig .tc := ⟨.hbm, 62, rfl⟩
abbrev main_v35 : Ref sig .tc := ⟨.hbm, 63, rfl⟩
abbrev main_call5_v0 : Ref sig .tc := ⟨.hbm, 64, rfl⟩
abbrev main_v36 : Ref sig .tc := ⟨.hbm, 65, rfl⟩
abbrev main_call6_v0 : Ref sig .tc := ⟨.hbm, 66, rfl⟩
abbrev main_v37 : Ref sig .tc := ⟨.hbm, 67, rfl⟩
abbrev main_call7_v0 : Ref sig .tc := ⟨.hbm, 68, rfl⟩
abbrev main_v38 : Ref sig .tc := ⟨.hbm, 69, rfl⟩
abbrev main_call8_v0 : Ref sig .tc := ⟨.hbm, 70, rfl⟩
abbrev main_v39 : Ref sig .tc := ⟨.hbm, 71, rfl⟩
abbrev main_call9_v0 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_9 : Ref sig .tc := ⟨.hbm, 109, rfl⟩
abbrev main_v76 : Ref sig .tc := ⟨.hbm, 110, rfl⟩
abbrev main_v77 : Ref sig .tc := ⟨.hbm, 111, rfl⟩
abbrev main_cst_10 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_call10_v0 : Ref sig .tc := ⟨.hbm, 123, rfl⟩
abbrev main_v88 : Ref sig .tc := ⟨.hbm, 124, rfl⟩
abbrev main_call11_v0 : Ref sig .tc := ⟨.hbm, 125, rfl⟩
abbrev main_v89 : Ref sig .tc := ⟨.hbm, 126, rfl⟩
abbrev main_call12_v0 : Ref sig .tc := ⟨.hbm, 127, rfl⟩
abbrev main_v90 : Ref sig .tc := ⟨.hbm, 128, rfl⟩
abbrev main_call13_v0 : Ref sig .tc := ⟨.hbm, 129, rfl⟩
abbrev main_v91 : Ref sig .tc := ⟨.hbm, 130, rfl⟩
abbrev main_call14_v0 : Ref sig .tc := ⟨.hbm, 131, rfl⟩
abbrev main_v92 : Ref sig .tc := ⟨.hbm, 132, rfl⟩
abbrev main_call15_v0 : Ref sig .tc := ⟨.hbm, 133, rfl⟩
abbrev main_v93 : Ref sig .tc := ⟨.hbm, 134, rfl⟩
abbrev main_call16_v0 : Ref sig .tc := ⟨.hbm, 135, rfl⟩
abbrev main_v94 : Ref sig .tc := ⟨.hbm, 136, rfl⟩
abbrev main_call17_v0 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_cst_11 : Ref sig .tc := ⟨.hbm, 174, rfl⟩
abbrev main_v131 : Ref sig .tc := ⟨.hbm, 175, rfl⟩
abbrev main_v132 : Ref sig .tc := ⟨.hbm, 176, rfl⟩
abbrev main_cst_12 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_call18_v0 : Ref sig .tc := ⟨.hbm, 188, rfl⟩
abbrev main_v143 : Ref sig .tc := ⟨.hbm, 189, rfl⟩
abbrev main_call19_v0 : Ref sig .tc := ⟨.hbm, 190, rfl⟩
abbrev main_v144 : Ref sig .tc := ⟨.hbm, 191, rfl⟩
abbrev main_call20_v0 : Ref sig .tc := ⟨.hbm, 192, rfl⟩
abbrev main_v145 : Ref sig .tc := ⟨.hbm, 193, rfl⟩
abbrev main_call21_v0 : Ref sig .tc := ⟨.hbm, 194, rfl⟩
abbrev main_v146 : Ref sig .tc := ⟨.hbm, 195, rfl⟩
abbrev main_call22_v0 : Ref sig .tc := ⟨.hbm, 196, rfl⟩
abbrev main_v147 : Ref sig .tc := ⟨.hbm, 197, rfl⟩
abbrev main_call23_v0 : Ref sig .tc := ⟨.hbm, 198, rfl⟩
abbrev main_v148 : Ref sig .tc := ⟨.hbm, 199, rfl⟩
abbrev main_call24_v0 : Ref sig .tc := ⟨.hbm, 200, rfl⟩
abbrev main_v149 : Ref sig .tc := ⟨.hbm, 201, rfl⟩
abbrev main_call25_v0 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_cst_13 : Ref sig .tc := ⟨.hbm, 239, rfl⟩
abbrev main_v186 : Ref sig .tc := ⟨.hbm, 240, rfl⟩
abbrev main_v187 : Ref sig .tc := ⟨.hbm, 241, rfl⟩
abbrev main_cst_14 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_call26_v0 : Ref sig .tc := ⟨.hbm, 253, rfl⟩
abbrev main_v198 : Ref sig .tc := ⟨.hbm, 254, rfl⟩
abbrev main_call27_v0 : Ref sig .tc := ⟨.hbm, 255, rfl⟩
abbrev main_v199 : Ref sig .tc := ⟨.hbm, 256, rfl⟩
abbrev main_call28_v0 : Ref sig .tc := ⟨.hbm, 257, rfl⟩
abbrev main_v200 : Ref sig .tc := ⟨.hbm, 258, rfl⟩
abbrev main_call29_v0 : Ref sig .tc := ⟨.hbm, 259, rfl⟩
abbrev main_v201 : Ref sig .tc := ⟨.hbm, 260, rfl⟩
abbrev main_call30_v0 : Ref sig .tc := ⟨.hbm, 261, rfl⟩
abbrev main_v202 : Ref sig .tc := ⟨.hbm, 262, rfl⟩
abbrev main_call31_v0 : Ref sig .tc := ⟨.hbm, 263, rfl⟩
abbrev main_v203 : Ref sig .tc := ⟨.hbm, 264, rfl⟩
abbrev main_call32_v0 : Ref sig .tc := ⟨.hbm, 265, rfl⟩
abbrev main_v204 : Ref sig .tc := ⟨.hbm, 266, rfl⟩
abbrev main_call33_v0 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩

abbrev nD : Nat := 1
abbrev τ : Topo := Topo.v7x

variable {F : FTy → Type} [FloatOps F]
-- ==== Proof.Pixel.lean ====
/- Scalar facts: the pixel position a vertex projects to is a real number between 0 and 223, and the scalar operations
   that both programs apply to it (division by a level's step, floor, ceiling, conversion to an integer and back) at
   real arguments. -/
module

public import Idealize.ShloMosaic.Lib.IdealHost
public import Idealize.ShloMosaic.PureOps.Ideal.Laws

@[expose] public section

noncomputable section

namespace Cert.Proof

open Idealize.ShloMosaic

/-! ## The constants -/

theorem word_223 : Ideal.ofBits .f32 0x435F0000#32 = ((223 : ℝ) : EReal) := by
  simp [Ideal.ofBits, Ideal.ieee, -EReal.coe_mul]; norm_num

theorem word_4 : Ideal.ofBits .f32 0x40800000#32 = ((4 : ℝ) : EReal) := by
  simp [Ideal.ofBits, Ideal.ieee, -EReal.coe_mul]; norm_num

theorem word_8 : Ideal.ofBits .f32 0x41000000#32 = ((8 : ℝ) : EReal) := by
  simp [Ideal.ofBits, Ideal.ieee, -EReal.coe_mul]; norm_num

theorem word_16 : Ideal.ofBits .f32 0x41800000#32 = ((16 : ℝ) : EReal) := by
  simp [Ideal.ofBits, Ideal.ieee, -EReal.coe_mul]; norm_num

theorem word_32 : Ideal.ofBits .f32 0x42000000#32 = ((32 : ℝ) : EReal) := by
  simp [Ideal.ofBits, Ideal.ieee, -EReal.coe_mul]; norm_num

theorem word_55 : Ideal.ofBits .f32 0x425C0000#32 = ((55 : ℕ) : EReal) := by
  rw [show ((55 : ℕ) : EReal) = ((55 : ℝ) : EReal) by norm_cast]
  simp [Ideal.ofBits, Ideal.ieee, -EReal.coe_mul]; norm_num

theorem word_27 : Ideal.ofBits .f32 0x41D80000#32 = ((27 : ℕ) : EReal) := by
  rw [show ((27 : ℕ) : EReal) = ((27 : ℝ) : EReal) by norm_cast]
  simp [Ideal.ofBits, Ideal.ieee, -EReal.coe_mul]; norm_num

theorem word_13 : Ideal.ofBits .f32 0x41500000#32 = ((13 : ℕ) : EReal) := by
  rw [show ((13 : ℕ) : EReal) = ((13 : ℝ) : EReal) by norm_cast]
  simp [Ideal.ofBits, Ideal.ieee, -EReal.coe_mul]; norm_num

theorem word_6 : Ideal.ofBits .f32 0x40C00000#32 = ((6 : ℕ) : EReal) := by
  rw [show ((6 : ℕ) : EReal) = ((6 : ℝ) : EReal) by norm_cast]
  simp [Ideal.ofBits, Ideal.ieee, -EReal.coe_mul]; norm_num

/-! ## The pixel position -/

/-- The pixel coordinate of a projected quotient: `248 * q + 111.5`, clipped to `[0, 223]`. -/
def pixel (q : EReal) : EReal :=
  min (Ideal.ofBits .f32 0x435F0000#32) (max (Ideal.ofBits .f32 0x00000000#32)
    (Ideal.ofBits .f32 0x43780000#32 * q + Ideal.ofBits .f32 0x42DF0000#32))

/-- A pixel coordinate lies between 0 and 223, whatever the quotient (also at an infinity). -/
theorem pixel_real (q : EReal) : ∃ r : ℝ, pixel q = (r : EReal) ∧ 0 ≤ r ∧ r ≤ 223 := by
  have h0 : (0 : EReal) ≤ pixel q := by
    unfold pixel
    rw [Ideal.ofBits_zero_f32, word_223]
    exact le_min (by exact_mod_cast (by norm_num : (0 : ℝ) ≤ 223)) (le_max_left _ _)
  have h1 : pixel q ≤ ((223 : ℝ) : EReal) := by
    unfold pixel
    rw [word_223]
    exact min_le_left _ _
  have hb : pixel q ≠ ⊥ := fun e => by rw [e] at h0; exact absurd h0 (by simp)
  have ht : pixel q ≠ ⊤ := fun e => by rw [e] at h1; exact absurd h1 (by simp)
  refine ⟨(pixel q).toReal, (EReal.coe_toReal ht hb).symm, EReal.toReal_nonneg h0, ?_⟩
  have h2 := h1
  rw [← EReal.coe_toReal ht hb] at h2
  exact EReal.coe_le_coe_iff.mp h2

/-- The vertical pixel coordinate of a vertex `(x, y, z)`, from `y / z`, as a real number. -/
def rowPix (v : Fin 3 → EReal) : ℝ := (pixel (Ideal.div (v 1) (v 2))).toReal

/-- The horizontal pixel coordinate of a vertex `(x, y, z)`, from `x / (-z)`, as a real number. -/
def colPix (v : Fin 3 → EReal) : ℝ := (pixel (Ideal.div (v 0) (-(v 2)))).toReal

theorem coe_toReal_pixel (q : EReal) : (((pixel q).toReal : ℝ) : EReal) = pixel q := by
  obtain ⟨r, hr, -, -⟩ := pixel_real q
  rw [hr, EReal.toReal_coe]

theorem toReal_pixel_nonneg (q : EReal) : 0 ≤ (pixel q).toReal := by
  obtain ⟨r, hr, h, -⟩ := pixel_real q
  rw [hr, EReal.toReal_coe]; exact h

theorem toReal_pixel_le (q : EReal) : (pixel q).toReal ≤ 223 := by
  obtain ⟨r, hr, -, h⟩ := pixel_real q
  rw [hr, EReal.toReal_coe]; exact h

theorem rowPix_nonneg (v : Fin 3 → EReal) : 0 ≤ rowPix v := toReal_pixel_nonneg _
theorem rowPix_le (v : Fin 3 → EReal) : rowPix v ≤ 223 := toReal_pixel_le _
theorem colPix_nonneg (v : Fin 3 → EReal) : 0 ≤ colPix v := toReal_pixel_nonneg _
theorem colPix_le (v : Fin 3 → EReal) : colPix v ≤ 223 := toReal_pixel_le _

/-! ## The scalar operations at a real number -/

/-- The larger of two reals, as an extended real. -/
theorem coe_max (a b : ℝ) : ((max a b : ℝ) : EReal) = max (a : EReal) (b : EReal) :=
  EReal.coe_strictMono.monotone.map_max

/-- The smaller of two reals, as an extended real. -/
theorem coe_min (a b : ℝ) : ((min a b : ℝ) : EReal) = min (a : EReal) (b : EReal) :=
  EReal.coe_strictMono.monotone.map_min

/-- Division of a real by a real that is not zero. -/
theorem div_real (r n : ℝ) (hn : n ≠ 0) : Ideal.div (r : EReal) (n : EReal) = ((r / n : ℝ) : EReal) := by
  unfold Ideal.div
  rw [if_neg (by exact_mod_cast hn), ← EReal.coe_inv, ← EReal.coe_mul, div_eq_mul_inv]

/-- The floor of a real that is not negative, as a natural number. -/
theorem floor_real (u : ℝ) (hu : 0 ≤ u) : Ideal.liftRound Int.floor (u : EReal) = (((⌊u⌋₊ : ℕ) : ℝ) : EReal) := by
  rw [Ideal.liftRound_coe, ← Int.natCast_floor_eq_floor hu]; simp

/-- The ceiling of a real that is not negative, as a natural number. -/
theorem ceil_real (u : ℝ) (hu : 0 ≤ u) : Ideal.liftRound Int.ceil (u : EReal) = (((⌈u⌉₊ : ℕ) : ℝ) : EReal) := by
  rw [Ideal.liftRound_coe, ← Int.natCast_ceil_eq_ceil hu]; simp

/-- A small natural number converted to a word. -/
theorem fptosi_nat (n : ℕ) (hn : n < 2 ^ 31) : Ideal.fptosi 32 (((n : ℕ) : ℝ) : EReal) = BitVec.ofNat 32 n := by
  unfold Ideal.fptosi
  rw [Ideal.toIntClamped_coe, if_pos (Nat.cast_nonneg n), Int.floor_natCast]
  have : max (-((2 ^ (32 - 1) : ℕ) : ℤ)) (min (((2 ^ (32 - 1) : ℕ) : ℤ) - 1) (n : ℤ)) = (n : ℤ) := by
    omega
  rw [this]; simp

/-- … and back: the integer that the word holds. -/
theorem toInt_word (n : ℕ) (hn : n < 2 ^ 31) : (BitVec.ofNat 32 n).toInt = (n : ℤ) := by
  rw [BitVec.toInt_ofNat', Int.bmod_eq_of_le (by omega) (by omega)]

/-- A natural number clipped to `[0, k]` in the extended reals and converted to a word. -/
theorem fptosi_clip (n k : ℕ) (hk : k < 2 ^ 31) :
    Ideal.fptosi 32 (min ((k : ℕ) : EReal) (max 0 (((n : ℕ) : ℝ) : EReal))) = BitVec.ofNat 32 (min n k) := by
  have h0 : (0 : EReal) ≤ (((n : ℕ) : ℝ) : EReal) := by exact_mod_cast (Nat.cast_nonneg n : (0 : ℝ) ≤ (n : ℝ))
  rw [max_eq_right h0, show ((k : ℕ) : EReal) = (((k : ℕ) : ℝ) : EReal) from rfl, ← coe_min, ← Nat.cast_min,
    fptosi_nat _ (by omega), Nat.min_comm]

/-- Whether a real is not an integer, as the number 1 or 0. -/
def frac (u : ℝ) : ℝ := if ⌊u⌋₊ = ⌈u⌉₊ then 0 else 1

/-- The kernel's test "floor and ceiling differ", widened and converted, is `frac`. -/
theorem frac_word (u : ℝ) (hu : 0 ≤ u) :
    (((((Ideal.cmp .one (Ideal.liftRound Int.floor (u : EReal)) (Ideal.liftRound Int.ceil (u : EReal))).setWidth 32).toInt : ℤ) : ℝ) : EReal)
      = ((frac u : ℝ) : EReal) := by
  rw [floor_real u hu, ceil_real u hu]
  unfold frac Ideal.cmp
  by_cases h : ⌊u⌋₊ = ⌈u⌉₊
  · simp [h]
  · have h' : ¬((((⌊u⌋₊ : ℕ) : ℝ) : EReal) = (((⌈u⌉₊ : ℕ) : ℝ) : EReal)) := by
      intro e; exact h (by exact_mod_cast e)
    simp [h, h']

/-- How far the ceiling of `x` lies above it, where `y` is not an integer. -/
def above (x y : ℝ) : ℝ := ((⌈x⌉₊ : ℝ) - x) * frac y

/-- How far the floor of `x` lies below it, where `y` is not an integer. -/
def below (x y : ℝ) : ℝ := (x - (⌊x⌋₊ : ℝ)) * frac y

/-- The kernel's first weight at the coordinates `h / n` and `w / n`. -/
theorem above_word (h w n : ℝ) (hh : 0 ≤ h) (hw : 0 ≤ w) (hn : 0 < n) :
    (Ideal.liftRound Int.ceil (Ideal.div (h : EReal) (n : EReal)) - Ideal.div (h : EReal) (n : EReal))
        * FloatOps.sitofp (F := Ideal) .f32 (BitVec.setWidth 32 (Ideal.cmp .one (Ideal.liftRound Int.floor (Ideal.div (w : EReal) (n : EReal)))
            (Ideal.liftRound Int.ceil (Ideal.div (w : EReal) (n : EReal)))))
      = ((above (h / n) (w / n) : ℝ) : EReal) := by
  rw [div_real h n hn.ne', div_real w n hn.ne']
  show _ * (((((Ideal.cmp .one _ _).setWidth 32).toInt : ℤ) : ℝ) : EReal) = _
  rw [frac_word _ (div_nonneg hw hn.le), ceil_real _ (div_nonneg hh hn.le), ← EReal.coe_sub, ← EReal.coe_mul]
  rfl

/-- The kernel's second weight at the coordinates `h / n` and `w / n`. -/
theorem below_word (h w n : ℝ) (hh : 0 ≤ h) (hw : 0 ≤ w) (hn : 0 < n) :
    (Ideal.div (h : EReal) (n : EReal) - Ideal.liftRound Int.floor (Ideal.div (h : EReal) (n : EReal)))
        * FloatOps.sitofp (F := Ideal) .f32 (BitVec.setWidth 32 (Ideal.cmp .one (Ideal.liftRound Int.floor (Ideal.div (w : EReal) (n : EReal)))
            (Ideal.liftRound Int.ceil (Ideal.div (w : EReal) (n : EReal)))))
      = ((below (h / n) (w / n) : ℝ) : EReal) := by
  rw [div_real h n hn.ne', div_real w n hn.ne']
  show _ * (((((Ideal.cmp .one _ _).setWidth 32).toInt : ℤ) : ℝ) : EReal) = _
  rw [frac_word _ (div_nonneg hw hn.le), floor_real _ (div_nonneg hh hn.le), ← EReal.coe_sub, ← EReal.coe_mul]
  rfl

/-- The hat function around the integer `j`: `max (1 - |y - j|) 0`. -/
def hat (y : ℝ) (j : ℕ) : ℝ := max (1 - |y - (j : ℝ)|) 0

/-- The kernel's hat: a scaled coordinate minus a lane's number, in absolute value, subtracted from one, cut at zero. -/
theorem hat_word (w s y : ℝ) (j : ℕ) (e : w * s = y) :
    max (1 - max ((w : EReal) * (s : EReal) + 1 * ((-(j : ℝ) : ℝ) : EReal)) (-((w : EReal) * (s : EReal) + 1 * ((-(j : ℝ) : ℝ) : EReal)))) 0
      = ((hat y j : ℝ) : EReal) := by
  unfold hat
  rw [one_mul, ← EReal.coe_mul, ← EReal.coe_add, ← EReal.coe_neg, ← coe_max, ← EReal.coe_one, ← EReal.coe_sub,
    ← EReal.coe_zero, ← coe_max, e, abs_eq_max_neg, ← sub_eq_add_neg]

end Cert.Proof

end
-- ==== Proof.Tables.lean ====
/- The two constant tables of the kernel, as extended reals: the lane table (each lane's scale and minus its number in its
   half strip) and the one-hot table that spreads the eight weight columns over the lanes. -/
module

public import proofs.«01_k».proof.KernelIdeal
public import proofs.«01_k».proof.Proof.Pixel

@[expose] public section

noncomputable section

namespace Cert.Proof

open Idealize.ShloMosaic Cert.KernelIdeal

/-- The lane table's entry number `n`, in row-major order. -/
abbrev laneWord (n : ℕ) (h : n < 512 := by omega) : BitVec 32 := lit0 ⟨n, h⟩

/-- The one-hot table's entry number `n`, in row-major order. -/
abbrev spreadWord (n : ℕ) (h : n < 2048 := by omega) : BitVec 32 := lit1 ⟨n, h⟩

theorem word_quarter : Ideal.ofBits .f32 0x3E800000#32 = ((1 / 4 : ℝ) : EReal) := by
  simp [Ideal.ofBits, Ideal.ieee, -EReal.coe_mul]; norm_num

theorem word_eighth : Ideal.ofBits .f32 0x3E000000#32 = ((1 / 8 : ℝ) : EReal) := by
  simp [Ideal.ofBits, Ideal.ieee, -EReal.coe_mul]; norm_num

theorem word_sixteenth : Ideal.ofBits .f32 0x3D800000#32 = ((1 / 16 : ℝ) : EReal) := by
  simp [Ideal.ofBits, Ideal.ieee, -EReal.coe_mul]; norm_num

theorem word_thirtysecond : Ideal.ofBits .f32 0x3D000000#32 = ((1 / 32 : ℝ) : EReal) := by
  simp [Ideal.ofBits, Ideal.ieee, -EReal.coe_mul]; norm_num

/-- A word with its sign bit set whose significand is `j` shifted to the exponent encodes `-j`. -/
theorem word_neg (b : BitVec 32) (j : ℕ) (h₁ : b.extractLsb' 31 1 = 1#1) (h₂ : (b.extractLsb' 23 8).toNat ≠ 255)
    (h₃ : (b.extractLsb' 23 8).toNat ≠ 0) (h₄ : (b.extractLsb' 23 8).toNat ≤ 150)
    (h₅ : 2 ^ 23 + (b.extractLsb' 0 23).toNat = j * 2 ^ (150 - (b.extractLsb' 23 8).toNat)) :
    Ideal.ofBits .f32 b = ((-(j : ℝ) : ℝ) : EReal) := by
  unfold Ideal.ofBits Ideal.ieee
  have e1 : ¬ (b.extractLsb' 23 8).toNat = 2 ^ 8 - 1 := h₂
  simp only [if_neg e1, if_neg h₃, show (8 + 23 : ℕ) = 31 from rfl, h₁, beq_self_eq_true, if_true]
  rw [h₅]
  obtain ⟨d, hd⟩ := Nat.exists_eq_add_of_le h₄
  have e2 : ((b.extractLsb' 23 8).toNat : ℤ) - (2 ^ (8 - 1) - 1) - (23 : ℕ) = -(d : ℤ) := by
    have : (150 : ℤ) = ((b.extractLsb' 23 8).toNat : ℤ) + d := by exact_mod_cast hd
    generalize (b.extractLsb' 23 8).toNat = ex at *
    norm_num; omega
  rw [e2, show 150 - (b.extractLsb' 23 8).toNat = d by omega]
  congr 1
  push_cast
  rw [zpow_neg, zpow_natCast]
  field_simp

/-- The fields of the words for -1, …, -63. -/
theorem lane_fields : ∀ j : Fin 64, j.val ≠ 0 →
    (laneWord (256 + j.val)).extractLsb' 31 1 = 1#1 ∧ ((laneWord (256 + j.val)).extractLsb' 23 8).toNat ≠ 255
      ∧ ((laneWord (256 + j.val)).extractLsb' 23 8).toNat ≠ 0 ∧ ((laneWord (256 + j.val)).extractLsb' 23 8).toNat ≤ 150
      ∧ 2 ^ 23 + ((laneWord (256 + j.val)).extractLsb' 0 23).toNat
          = j.val * 2 ^ (150 - ((laneWord (256 + j.val)).extractLsb' 23 8).toNat) := by decide +kernel

theorem lane_zero : laneWord 256 = 0x80000000#32 := by decide +kernel

/-- The lane table's second row starts with the numbers 0, -1, …, -63. -/
theorem lane_number (j : Fin 64) : Ideal.ofBits .f32 (laneWord (256 + j.val)) = ((-(j.val : ℝ) : ℝ) : EReal) := by
  by_cases hj : j.val = 0
  · obtain rfl : j = 0 := Fin.ext hj
    rw [show laneWord (256 + ((0 : Fin 64)).val) = 0x80000000#32 from lane_zero]
    simp [Ideal.ofBits, Ideal.ieee]
  · obtain ⟨h₁, h₂, h₃, h₄, h₅⟩ := lane_fields j hj
    exact word_neg _ _ h₁ h₂ h₃ h₄ h₅

/-- Every half strip of the lane table's second row repeats that start. -/
theorem lane_repeat0 : ∀ j : Fin 64, laneWord (256 + (64 + j.val)) = laneWord (256 + j.val) := by decide +kernel
theorem lane_repeat1 : ∀ (h : Fin 2) (j : Fin 32), laneWord (256 + (128 + 32 * h.val + j.val)) = laneWord (256 + j.val) := by decide +kernel
theorem lane_repeat2 : ∀ (h : Fin 2) (j : Fin 16), laneWord (256 + (192 + 16 * h.val + j.val)) = laneWord (256 + j.val) := by decide +kernel
theorem lane_repeat3 : ∀ (h : Fin 2) (j : Fin 8), laneWord (256 + (224 + 8 * h.val + j.val)) = laneWord (256 + j.val) := by decide +kernel

/-- The lane table's first row holds one step per level. -/
theorem lane_scale0 : ∀ j : Fin 128, laneWord j.val = 0x3E800000#32 := by decide +kernel
theorem lane_scale1 : ∀ j : Fin 64, laneWord (128 + j.val) = 0x3E000000#32 := by decide +kernel
theorem lane_scale2 : ∀ j : Fin 32, laneWord (192 + j.val) = 0x3D800000#32 := by decide +kernel
theorem lane_scale3 : ∀ j : Fin 16, laneWord (224 + j.val) = 0x3D000000#32 := by decide +kernel

/-- The one-hot table: row `k` is one on half strip `k` and zero on the others. -/
theorem spread0 : ∀ (k : Fin 8) (h : Fin 2) (j : Fin 64),
    spreadWord (256 * k.val + (64 * h.val + j.val)) = if k.val = h.val then 0x3F800000#32 else 0x00000000#32 := by decide +kernel
theorem spread1 : ∀ (k : Fin 8) (h : Fin 2) (j : Fin 32),
    spreadWord (256 * k.val + (128 + 32 * h.val + j.val)) = if k.val = 2 + h.val then 0x3F800000#32 else 0x00000000#32 := by decide +kernel
theorem spread2 : ∀ (k : Fin 8) (h : Fin 2) (j : Fin 16),
    spreadWord (256 * k.val + (192 + 16 * h.val + j.val)) = if k.val = 4 + h.val then 0x3F800000#32 else 0x00000000#32 := by decide +kernel
theorem spread3 : ∀ (k : Fin 8) (h : Fin 2) (j : Fin 8),
    spreadWord (256 * k.val + (224 + 8 * h.val + j.val)) = if k.val = 6 + h.val then 0x3F800000#32 else 0x00000000#32 := by decide +kernel

end Cert.Proof

end
-- ==== Proof.Bilinear.lean ====
/- One level of the feature pyramid, as mathematics: the value `bilinear` that the reference writes as four weighted rows,
   and the equation `strip_sum` between it and the sum over a strip of lanes that the kernel computes. -/
module

public import proofs.«01_k».proof.Proof.Pixel
public import Idealize.ShloMosaic.Lib.Pointwise

@[expose] public section

noncomputable section

namespace Cert.Proof

open Idealize.ShloMosaic
open scoped BigOperators

/-- Four feature values weighted by the position of `(x, y)` in its cell. `f` is one feature column by row number and
    `X` the vertical coordinate of each vertex by vertex number: a row is looked up through the vertex that the
    horizontal coordinate `y` names, as the two nested takes of the reference do. -/
def bilinear (f : ℕ → EReal) (X : ℕ → ℝ) (x y : ℝ) : EReal :=
  ((((((⌈x⌉₊ : ℝ) - x) * ((⌈y⌉₊ : ℝ) - y) : ℝ) : EReal) * f ⌊X ⌊y⌋₊⌋₊
      + (((x - (⌊x⌋₊ : ℝ)) * ((⌈y⌉₊ : ℝ) - y) : ℝ) : EReal) * f ⌈X ⌊y⌋₊⌉₊)
    + ((((⌈x⌉₊ : ℝ) - x) * (y - (⌊y⌋₊ : ℝ)) : ℝ) : EReal) * f ⌊X ⌈y⌉₊⌋₊)
  + (((x - (⌊x⌋₊ : ℝ)) * (y - (⌊y⌋₊ : ℝ)) : ℝ) : EReal) * f ⌈X ⌈y⌉₊⌉₊

/-- The hat of an integer away from `y`'s floor and ceiling is zero. -/
theorem hat_far (y : ℝ) (hy : 0 ≤ y) (j : ℕ) (h1 : j ≠ ⌊y⌋₊) (h2 : j ≠ ⌈y⌉₊) : hat y j = 0 := by
  unfold hat
  refine max_eq_right ?_
  have hfl := Nat.floor_le hy
  have hlt := Nat.lt_floor_add_one y
  have hce := Nat.le_ceil y
  rcases lt_or_gt_of_ne h1 with h | h
  · have hj : (j : ℝ) + 1 ≤ (⌊y⌋₊ : ℝ) := by exact_mod_cast h
    rw [abs_of_nonneg (by linarith)]; linarith
  · have hj : (⌊y⌋₊ : ℝ) + 1 ≤ (j : ℝ) := by exact_mod_cast h
    have h3 : ⌈y⌉₊ ≤ ⌊y⌋₊ + 1 := Nat.ceil_le_floor_add_one y
    have h4 : (⌈y⌉₊ : ℝ) + 1 ≤ (j : ℝ) := by
      have : ⌈y⌉₊ + 1 ≤ j := by omega
      exact_mod_cast this
    rw [abs_of_nonpos (by linarith)]; linarith

/-- Where `y` is not an integer, the hat at its floor is the distance to the ceiling. -/
theorem hat_floor (y : ℝ) (hy : 0 ≤ y) (h : ⌈y⌉₊ = ⌊y⌋₊ + 1) : hat y ⌊y⌋₊ = (⌈y⌉₊ : ℝ) - y := by
  unfold hat
  have hfl := Nat.floor_le hy
  have hce := Nat.le_ceil y
  have e : (⌈y⌉₊ : ℝ) = (⌊y⌋₊ : ℝ) + 1 := by exact_mod_cast h
  rw [abs_of_nonneg (by linarith), max_eq_left (by linarith)]; linarith

/-- Where `y` is not an integer, the hat at its ceiling is the distance to the floor. -/
theorem hat_ceil (y : ℝ) (hy : 0 ≤ y) (h : ⌈y⌉₊ = ⌊y⌋₊ + 1) : hat y ⌈y⌉₊ = y - (⌊y⌋₊ : ℝ) := by
  unfold hat
  have hfl := Nat.floor_le hy
  have hce := Nat.le_ceil y
  have e : (⌈y⌉₊ : ℝ) = (⌊y⌋₊ : ℝ) + 1 := by exact_mod_cast h
  rw [abs_of_nonpos (by linarith), max_eq_left (by linarith)]; linarith

/-- The sum over a strip's half: the hats of `y` leave the two lanes at `y`'s floor and ceiling, and nothing where `y` is
    an integer. -/
theorem half_sum (B : ℕ) (a y : ℝ) (hy : 0 ≤ y) (hB : ⌈y⌉₊ < B) (G : ℕ → EReal) :
    ∑ j : Fin B, ((a * frac y * hat y j.val : ℝ) : EReal) * G j.val
      = ((a * ((⌈y⌉₊ : ℝ) - y) : ℝ) : EReal) * G ⌊y⌋₊ + ((a * (y - (⌊y⌋₊ : ℝ)) : ℝ) : EReal) * G ⌈y⌉₊ := by
  have hfc : ⌊y⌋₊ ≤ ⌈y⌉₊ := Nat.floor_le_ceil y
  by_cases h : ⌊y⌋₊ = ⌈y⌉₊
  · have hfl := Nat.floor_le hy
    have hce := Nat.le_ceil y
    have e : (⌊y⌋₊ : ℝ) = (⌈y⌉₊ : ℝ) := by exact_mod_cast h
    have e1 : (⌈y⌉₊ : ℝ) - y = 0 := by linarith
    have e2 : y - (⌊y⌋₊ : ℝ) = 0 := by linarith
    rw [e1, e2]
    simp [frac, h]
  · have hs : ⌈y⌉₊ = ⌊y⌋₊ + 1 := by
      have := Nat.ceil_le_floor_add_one y
      omega
    have hne : (⟨⌊y⌋₊, by omega⟩ : Fin B) ≠ ⟨⌈y⌉₊, hB⟩ := fun e => h (Fin.mk.inj_iff.mp e)
    rw [← Finset.sum_subset (Finset.subset_univ {(⟨⌊y⌋₊, by omega⟩ : Fin B), ⟨⌈y⌉₊, hB⟩}) ?_, Finset.sum_pair hne]
    · have hf : frac y = 1 := if_neg h
      simp only [hf, mul_one, hat_floor y hy hs, hat_ceil y hy hs]
    · intro j _ hj
      rw [Finset.mem_insert, Finset.mem_singleton, not_or] at hj
      rw [hat_far y hy j.val (fun e => hj.1 (Fin.ext e)) (fun e => hj.2 (Fin.ext e))]
      simp

/-- A STRIP'S CONTRACTION IS THE BILINEAR VALUE. The strip holds, over its first half `L₁`, the distance to `x`'s ceiling
    and, over its second half `L₂`, the distance to `x`'s floor, each times the hats of `y`; `R₁` and `R₂` hold the feature
    rows at the floors and at the ceilings of the vertices' vertical coordinates. -/
theorem strip_sum {B : ℕ} (L₁ L₂ R₁ R₂ : Fin B → EReal) (f : ℕ → EReal) (X : ℕ → ℝ) (x y : ℝ) (hy : 0 ≤ y) (hB : ⌈y⌉₊ < B)
    (hL₁ : ∀ j : Fin B, L₁ j = ((above x y * hat y j.val : ℝ) : EReal))
    (hL₂ : ∀ j : Fin B, L₂ j = ((below x y * hat y j.val : ℝ) : EReal))
    (hR₁ : ∀ j : Fin B, R₁ j = f ⌊X j.val⌋₊)
    (hR₂ : ∀ j : Fin B, R₂ j = f ⌈X j.val⌉₊) :
    ∑ j : Fin B, L₁ j * R₁ j + ∑ j : Fin B, L₂ j * R₂ j = bilinear f X x y := by
  simp only [hL₁, hL₂, hR₁, hR₂, above, below]
  rw [half_sum B _ y hy hB fun j => f ⌊X j⌋₊, half_sum B _ y hy hB fun j => f ⌈X j⌉₊]
  unfold bilinear
  abel

/-- A one-hot row times a column is the column's entry. -/
theorem onehot_sum (S m : ℕ) (hm : m < S) (hS : S < 2 ^ 31) (g : Fin S → EReal) :
    ∑ t : Fin S, FloatOps.sitofp (F := Ideal) .f32
        (BitVec.setWidth 32 (IntOp.cmpi CmpIPredicate.eq (BitVec.ofNat 32 t.val) (BitVec.ofNat 32 m))) * g t = g ⟨m, hm⟩ := by
  have e : ∀ t : Fin S, FloatOps.sitofp (F := Ideal) .f32
        (BitVec.setWidth 32 (IntOp.cmpi CmpIPredicate.eq (BitVec.ofNat 32 t.val) (BitVec.ofNat 32 m))) = if t = ⟨m, hm⟩ then (1 : EReal) else 0 := by
    intro t
    by_cases h : t = ⟨m, hm⟩
    · subst h; rw [if_pos rfl, IntOp.cmpi_eq_self]
      show ((((BitVec.setWidth 32 1#1).toInt : ℤ) : ℝ) : EReal) = 1
      simp
    · have hne : (BitVec.ofNat 32 t.val) ≠ (BitVec.ofNat 32 m) := by
        intro e
        have e' := congrArg BitVec.toNat e
        rw [BitVec.toNat_ofNat, BitVec.toNat_ofNat, Nat.mod_eq_of_lt (by have := t.isLt; omega), Nat.mod_eq_of_lt (by omega)] at e'
        exact h (Fin.ext e')
      rw [if_neg h, show IntOp.cmpi CmpIPredicate.eq (BitVec.ofNat 32 t.val) (BitVec.ofNat 32 m) = 0#1 by
        show BitVec.ofBool (BitVec.ofNat 32 t.val == BitVec.ofNat 32 m) = 0#1
        rw [beq_false_of_ne hne]; rfl]
      show ((((BitVec.setWidth 32 0#1).toInt : ℤ) : ℝ) : EReal) = 0
      simp
  rw [Finset.sum_eq_single ⟨m, hm⟩]
  · rw [e, if_pos rfl, one_mul]
  · intro t _ ht
    rw [e, if_neg ht, zero_mul]
  · intro h; exact absurd (Finset.mem_univ _) h

/-- One column of a feature table by row number, a number past the last row reading the last row. -/
def column {S C : ℕ} (hS : 0 < S) (T : (⟨2, ![S, C]⟩ : Shape).Idx → EReal) (c : Fin C) (k : ℕ) : EReal :=
  T (ix2 ⟨min k (S - 1), by omega⟩ c)

/-- The kernel's one-hot row for the floor of a vertical coordinate reads the feature row of that number. -/
theorem floor_row {S C : ℕ} (hS : 0 < S) (hS' : S < 2 ^ 31) (T : (⟨2, ![S, C]⟩ : Shape).Idx → EReal) (c : Fin C) (h n : ℝ)
    (hh : 0 ≤ h) (hn : 0 < n) (H N K : EReal) (hH : H = (h : EReal)) (hN : N = (n : EReal)) (hK : K = ((S - 1 : ℕ) : EReal)) :
    ∑ t : Fin S, FloatOps.sitofp (F := Ideal) .f32 (BitVec.setWidth 32 (IntOp.cmpi CmpIPredicate.eq (BitVec.ofNat 32 t.val)
        (FloatOps.fptosi (F := Ideal) (φ := .f32) 32 (min K (max 0 (Ideal.liftRound Int.floor (Ideal.div H N))))))) * T (ix2 t c)
      = column hS T c ⌊h / n⌋₊ := by
  have e : FloatOps.fptosi (F := Ideal) (φ := .f32) 32 (min K (max 0 (Ideal.liftRound Int.floor (Ideal.div H N))))
      = BitVec.ofNat 32 (min ⌊h / n⌋₊ (S - 1)) := by
    rw [hH, hN, div_real h n hn.ne', floor_real _ (div_nonneg hh hn.le), hK]
    exact fptosi_clip _ _ (by omega)
  rw [e]
  exact onehot_sum S _ (by omega) hS' fun t => T (ix2 t c)

/-- The kernel's one-hot row for the ceiling of a vertical coordinate reads the feature row of that number. -/
theorem ceil_row {S C : ℕ} (hS : 0 < S) (hS' : S < 2 ^ 31) (T : (⟨2, ![S, C]⟩ : Shape).Idx → EReal) (c : Fin C) (h n : ℝ)
    (hh : 0 ≤ h) (hn : 0 < n) (H N K : EReal) (hH : H = (h : EReal)) (hN : N = (n : EReal)) (hK : K = ((S - 1 : ℕ) : EReal)) :
    ∑ t : Fin S, FloatOps.sitofp (F := Ideal) .f32 (BitVec.setWidth 32 (IntOp.cmpi CmpIPredicate.eq (BitVec.ofNat 32 t.val)
        (FloatOps.fptosi (F := Ideal) (φ := .f32) 32 (min K (max 0 (Ideal.liftRound Int.ceil (Ideal.div H N))))))) * T (ix2 t c)
      = column hS T c ⌈h / n⌉₊ := by
  have e : FloatOps.fptosi (F := Ideal) (φ := .f32) 32 (min K (max 0 (Ideal.liftRound Int.ceil (Ideal.div H N))))
      = BitVec.ofNat 32 (min ⌈h / n⌉₊ (S - 1)) := by
    rw [hH, hN, div_real h n hn.ne', ceil_real _ (div_nonneg hh hn.le), hK]
    exact fptosi_clip _ _ (by omega)
  rw [e]
  exact onehot_sum S _ (by omega) hS' fun t => T (ix2 t c)

end Cert.Proof

end
-- ==== Proof.Strip.lean ====
module

public import proofs.«01_k».proof.Proof.Tables
public import proofs.«01_k».proof.Proof.Bilinear
public import proofs.«01_k».proof.Proof.Gen.KernelIdeal.Skeleton

/-!
# The strip one block computes

From its vertices' pixel coordinates a block forms a strip of 256 lanes: at the lane of one level, one half and one number `j`,
the half's weight times the hat function of that level's horizontal coordinate at `j`.
-/

@[expose] public section

noncomputable section

namespace Cert.Proof

open Idealize.ShloMosaic Cert.KernelIdeal Cert.KernelIdeal.Gen

/-- One row of a table of vertices. -/
def vertex {n : ℕ} (v : (⟨2, ![n, 3]⟩ : Shape).Idx → EReal) (r : Fin n) : Fin 3 → EReal := fun a => v (ix2 r a)

/-- The lane table as the kernel reads it. -/
def laneTab : (⟨2, ![2, 256]⟩ : Shape).Idx → EReal := fun i => Ideal.ofBits .f32 (lit0 (Shape.rowMajor (⟨2, ![2, 256]⟩ : Shape) i))

/-- The spreading table as the kernel reads it. -/
def spreadTab : (⟨2, ![8, 256]⟩ : Shape).Idx → EReal := fun i => Ideal.ofBits .f32 (lit1 (Shape.rowMajor (⟨2, ![8, 256]⟩ : Shape) i))

theorem laneTab_apply (a : Fin 2) (l : Fin 256) :
    laneTab (ix2 a l) = Ideal.ofBits .f32 (laneWord (256 * a.val + l.val) (by omega)) := by
  unfold laneTab laneWord
  congr 2
  apply Fin.ext
  rw [Shape.rowMajor_val_two]
  show a.val * 256 + l.val = 256 * a.val + l.val
  omega

theorem spreadTab_apply (k : Fin 8) (l : Fin 256) :
    spreadTab (ix2 k l) = Ideal.ofBits .f32 (spreadWord (256 * k.val + l.val) (by omega)) := by
  unfold spreadTab spreadWord
  congr 2
  apply Fin.ext
  rw [Shape.rowMajor_val_two]
  show k.val * 256 + l.val = 256 * k.val + l.val
  omega

/-- The block's vertical pixel coordinate. -/
theorem row_pixel (v0 : S2000x3.Idx → EReal) (r : Fin 2000) (z : Fin 1) :
    k0_pay2 (F := Ideal) v0 (ix2 r z) = ((rowPix (vertex v0 r) : ℝ) : EReal) := by
  pointwise [k0_pay2]
  rw [rowPix, coe_toReal_pixel, pixel, Ideal.ofBits_zero]
  rfl

/-- The block's horizontal pixel coordinate. -/
theorem col_pixel (v0 : S2000x3.Idx → EReal) (r : Fin 2000) (z : Fin 1) :
    k0_pay3 (F := Ideal) v0 (ix2 r z) = ((colPix (vertex v0 r) : ℝ) : EReal) := by
  pointwise [k0_pay3]
  rw [colPix, coe_toReal_pixel, pixel, Ideal.ofBits_zero]
  simp only [zero_sub]
  rfl

/-- The vertical pixel coordinate of the first 64 vertices. -/
theorem head_pixel (v1 : S64x3.Idx → EReal) (r : Fin 64) (z : Fin 1) :
    k0_pay4 (F := Ideal) v1 (ix2 r z) = ((rowPix (vertex v1 r) : ℝ) : EReal) := by
  pointwise [k0_pay4]
  rw [rowPix, coe_toReal_pixel, pixel, Ideal.ofBits_zero]
  rfl

/-- The strip's weights, in the spreading table's order: above and below at each of the four levels. -/
def weight (v : Fin 3 → EReal) : Fin 8 → ℝ :=
  ![above (rowPix v / 4) (colPix v / 4), below (rowPix v / 4) (colPix v / 4),
    above (rowPix v / 8) (colPix v / 8), below (rowPix v / 8) (colPix v / 8),
    above (rowPix v / 16) (colPix v / 16), below (rowPix v / 16) (colPix v / 16),
    above (rowPix v / 32) (colPix v / 32), below (rowPix v / 32) (colPix v / 32)]

/-- The strip of 256 lanes that a block of vertices computes. -/
def strip (v0 : S2000x3.Idx → EReal) : S2000x256.Idx → EReal :=
  k0_pay19 (F := Ideal) (k0_pay2 v0) (k0_pay3 v0) (k0_pay6 (k0_pay5 v0) laneTab) (k0_pay9 (k0_pay2 v0) (k0_pay3 v0))
    (k0_pay10 (k0_pay2 v0) (k0_pay3 v0)) (k0_pay13 (k0_pay2 v0) (k0_pay3 v0)) (k0_pay14 (k0_pay2 v0) (k0_pay3 v0))
    (k0_pay16 (k0_pay3 v0)) (k0_pay17 (k0_pay2 v0) (k0_pay3 v0)) (k0_pay18 (k0_pay2 v0)) spreadTab

/-- The hat at a lane: the horizontal pixel coordinate times the lane's scale, plus the lane's offset. -/
theorem hat_lane (v0 : S2000x3.Idx → EReal) (r : Fin 2000) (l : Fin 256) :
    k0_pay6 (F := Ideal) (k0_pay5 v0) laneTab (ix2 r l)
      = max (1 - max (((colPix (vertex v0 r) : ℝ) : EReal) * laneTab (ix2 0 l) + laneTab (ix2 1 l))
          (-(((colPix (vertex v0 r) : ℝ) : EReal) * laneTab (ix2 0 l) + laneTab (ix2 1 l)))) 0 := by
  have h0 : k0_pay5 (F := Ideal) v0 (ix2 r 0) = ((colPix (vertex v0 r) : ℝ) : EReal) := by
    pointwise [k0_pay5]
    simp [col_pixel]
  have h1 : k0_pay5 (F := Ideal) v0 (ix2 r 1) = 1 := by
    pointwise [k0_pay5]
  pointwise [k0_pay6]
  rw [Fin.sum_univ_two, h0, h1, one_mul]
  rfl

/-- The strip at a lane: the weights spread by the table's column, times the hat. -/
theorem strip_lane (v0 : S2000x3.Idx → EReal) (r : Fin 2000) (l : Fin 256) :
    strip v0 (ix2 r l) = (∑ k : Fin 8, ((weight (vertex v0 r) k : ℝ) : EReal) * spreadTab (ix2 k l))
      * k0_pay6 (F := Ideal) (k0_pay5 v0) laneTab (ix2 r l) := by
  have hr := rowPix_nonneg (vertex v0 r)
  have hc := colPix_nonneg (vertex v0 r)
  have a4 := above_word _ _ 4 hr hc (by norm_num)
  have b4 := below_word _ _ 4 hr hc (by norm_num)
  have a8 := above_word _ _ 8 hr hc (by norm_num)
  have b8 := below_word _ _ 8 hr hc (by norm_num)
  have a16 := above_word _ _ 16 hr hc (by norm_num)
  have b16 := below_word _ _ 16 hr hc (by norm_num)
  have a32 := above_word _ _ 32 hr hc (by norm_num)
  have b32 := below_word _ _ 32 hr hc (by norm_num)
  have e0 : k0_pay9 (F := Ideal) (k0_pay2 v0) (k0_pay3 v0) (ix2 r 0) = ((weight (vertex v0 r) 0 : ℝ) : EReal) := by
    pointwise [k0_pay9, k0_pay8, k0_pay7]
    rw [row_pixel, col_pixel, word_4]; exact a4
  have e1 : k0_pay10 (F := Ideal) (k0_pay2 v0) (k0_pay3 v0) (ix2 r 0) = ((weight (vertex v0 r) 1 : ℝ) : EReal) := by
    pointwise [k0_pay10, k0_pay8, k0_pay7]
    rw [row_pixel, col_pixel, word_4]; exact b4
  have e2 : k0_pay13 (F := Ideal) (k0_pay2 v0) (k0_pay3 v0) (ix2 r 0) = ((weight (vertex v0 r) 2 : ℝ) : EReal) := by
    pointwise [k0_pay13, k0_pay12, k0_pay11]
    rw [row_pixel, col_pixel, word_8]; exact a8
  have e3 : k0_pay14 (F := Ideal) (k0_pay2 v0) (k0_pay3 v0) (ix2 r 0) = ((weight (vertex v0 r) 3 : ℝ) : EReal) := by
    pointwise [k0_pay14, k0_pay12, k0_pay11]
    rw [row_pixel, col_pixel, word_8]; exact b8
  have e4 : k0_pay17 (F := Ideal) (k0_pay2 v0) (k0_pay3 v0) (ix2 r 0) = ((weight (vertex v0 r) 4 : ℝ) : EReal) := by
    pointwise [k0_pay17, k0_pay16, k0_pay15]
    rw [row_pixel, col_pixel, word_16]; exact a16
  have e5 : k0_pay18 (F := Ideal) (k0_pay2 v0) (ix2 r 0) * k0_pay16 (F := Ideal) (k0_pay3 v0) (ix2 r 0) = ((weight (vertex v0 r) 5 : ℝ) : EReal) := by
    pointwise [k0_pay18, k0_pay16, k0_pay15]
    rw [row_pixel, col_pixel, word_16]; exact b16
  unfold strip
  pointwise [k0_pay19]
  rw [Fin.sum_univ_eight, Fin.sum_univ_eight]
  simp
  rw [row_pixel, col_pixel, word_32, e0, e1, e2, e3, e4, e5]
  have n : ∀ a b : EReal, Ideal.cmp .one a b = BitVec.ofBool (!decide (a = b)) := by
    intro a b
    by_cases h : a = b <;> simp [Ideal.cmp, h]
  rw [n] at a32 b32
  rw [a32, b32]
  rfl

/-- A lane whose scale is `1 / n`, whose offset is `-j` and whose spreading column picks the weight `q` holds that weight
    times the hat function of the scaled horizontal coordinate at `j`. -/
theorem strip_at (v0 : S2000x3.Idx → EReal) (r : Fin 2000) (l : Fin 256) (q : Fin 8) (n : ℝ) (j : ℕ)
    (hs : laneTab (ix2 0 l) = ((1 / n : ℝ) : EReal)) (hj : laneTab (ix2 1 l) = ((-(j : ℝ) : ℝ) : EReal))
    (hq : ∀ k : Fin 8, spreadTab (ix2 k l) = if k.val = q.val then 1 else 0) :
    strip v0 (ix2 r l) = ((weight (vertex v0 r) q * hat (colPix (vertex v0 r) / n) j : ℝ) : EReal) := by
  rw [strip_lane, hat_lane, hs, hj, Finset.sum_eq_single q]
  · rw [hq, if_pos rfl, mul_one, EReal.coe_mul]
    congr 1
    have h := hat_word (colPix (vertex v0 r)) (1 / n) (colPix (vertex v0 r) / n) j (by ring)
    rw [one_mul] at h
    exact h
  · intro k _ hk
    rw [hq, if_neg (fun h => hk (Fin.ext h)), mul_zero]
  · intro h; exact absurd (Finset.mem_univ _) h

/-- The words of the spreading table are one and zero. -/
theorem spread_word (p : Prop) [Decidable p] :
    Ideal.ofBits .f32 (if p then 0x3F800000#32 else 0x00000000#32) = if p then 1 else 0 := by
  split
  · simp [Ideal.ofBits, Ideal.ieee, -EReal.coe_mul]; norm_num
  · exact Ideal.ofBits_zero .f32

/-- A lane described by the tables' words. -/
theorem strip_words (v0 : S2000x3.Idx → EReal) (r : Fin 2000) (l : ℕ) (hl : l < 256) (q : Fin 8) (n : ℝ) (j : Fin 64) (s : BitVec 32)
    (hs : laneWord l (by omega) = s) (hn : Ideal.ofBits .f32 s = ((1 / n : ℝ) : EReal))
    (hj : laneWord (256 + l) (by omega) = laneWord (256 + j.val) (by omega))
    (hq : ∀ k : Fin 8, spreadWord (256 * k.val + l) (by omega) = if k.val = q.val then 0x3F800000#32 else 0x00000000#32) :
    strip v0 (ix2 r ⟨l, hl⟩) = ((weight (vertex v0 r) q * hat (colPix (vertex v0 r) / n) j.val : ℝ) : EReal) := by
  refine strip_at v0 r _ q n j.val ?_ ?_ fun k => ?_
  · rw [laneTab_apply]
    simp only [Fin.val_zero, mul_zero, zero_add]
    rw [hs, hn]
  · rw [laneTab_apply]
    simp only [Fin.val_one, mul_one]
    rw [hj, lane_number]
  · rw [spreadTab_apply, hq, spread_word]

/-- The strip's lanes of level 0. -/
theorem strip0 (v0 : S2000x3.Idx → EReal) (r : Fin 2000) (h : Fin 2) (j : Fin 64) :
    strip v0 (ix2 r ⟨64 * h.val + j.val, by omega⟩)
      = ((weight (vertex v0 r) ⟨h.val, by omega⟩ * hat (colPix (vertex v0 r) / 4) j.val : ℝ) : EReal) := by
  refine strip_words v0 r _ _ _ 4 j _ (lane_scale0 ⟨64 * h.val + j.val, by omega⟩) word_quarter ?_ fun k => spread0 k h j
  fin_cases h
  · simp
  · exact lane_repeat0 j

/-- The strip's lanes of level 1. -/
theorem strip1 (v0 : S2000x3.Idx → EReal) (r : Fin 2000) (h : Fin 2) (j : Fin 32) :
    strip v0 (ix2 r ⟨128 + 32 * h.val + j.val, by omega⟩)
      = ((weight (vertex v0 r) ⟨2 + h.val, by omega⟩ * hat (colPix (vertex v0 r) / 8) j.val : ℝ) : EReal) := by
  refine strip_words v0 r _ _ _ 8 ⟨j.val, by omega⟩ _ ?_ word_eighth (lane_repeat1 h j) fun k => spread1 k h j
  have e := lane_scale1 ⟨32 * h.val + j.val, by omega⟩
  simpa only [← add_assoc] using e

/-- The strip's lanes of level 2. -/
theorem strip2 (v0 : S2000x3.Idx → EReal) (r : Fin 2000) (h : Fin 2) (j : Fin 16) :
    strip v0 (ix2 r ⟨192 + 16 * h.val + j.val, by omega⟩)
      = ((weight (vertex v0 r) ⟨4 + h.val, by omega⟩ * hat (colPix (vertex v0 r) / 16) j.val : ℝ) : EReal) := by
  refine strip_words v0 r _ _ _ 16 ⟨j.val, by omega⟩ _ ?_ word_sixteenth (lane_repeat2 h j) fun k => spread2 k h j
  have e := lane_scale2 ⟨16 * h.val + j.val, by omega⟩
  simpa only [← add_assoc] using e

/-- The strip's lanes of level 3. -/
theorem strip3 (v0 : S2000x3.Idx → EReal) (r : Fin 2000) (h : Fin 2) (j : Fin 8) :
    strip v0 (ix2 r ⟨224 + 8 * h.val + j.val, by omega⟩)
      = ((weight (vertex v0 r) ⟨6 + h.val, by omega⟩ * hat (colPix (vertex v0 r) / 32) j.val : ℝ) : EReal) := by
  refine strip_words v0 r _ _ _ 32 ⟨j.val, by omega⟩ _ ?_ word_thirtysecond (lane_repeat3 h j) fun k => spread3 k h j
  have e := lane_scale3 ⟨8 * h.val + j.val, by omega⟩
  simpa only [← add_assoc] using e

end Cert.Proof

end
-- ==== Proof.Level.lean ====
module

public import proofs.«01_k».proof.Proof.Strip

/-!
# What a block computes at each level

The four level payloads of a block are the bilinear values at that level's coordinates.
-/

@[expose] public section

noncomputable section

namespace Cert.Proof

open Idealize.ShloMosaic Cert.KernelIdeal Cert.KernelIdeal.Gen

/-- The ceiling of a scaled horizontal coordinate stays inside the level's half strip. -/
theorem ceil_lt (v : Fin 3 → EReal) (n : ℝ) (B : ℕ) (hn : 0 < n) (h : 223 ≤ ((B - 1 : ℕ) : ℝ) * n) (hB : 0 < B) :
    ⌈colPix v / n⌉₊ < B := by
  have : ⌈colPix v / n⌉₊ ≤ B - 1 := Nat.ceil_le.2 ((div_le_iff₀ hn).2 ((colPix_le v).trans h))
  omega

/-- The lane of a strip may be written in any way that has the same value. -/
theorem strip_index (v0 : S2000x3.Idx → EReal) (r : Fin 2000) {l l' : ℕ} (hl : l < 256) (hl' : l' < 256) (e : l = l') :
    strip v0 (ix2 r ⟨l, hl⟩) = strip v0 (ix2 r ⟨l', hl'⟩) := by
  subst e; rfl

/-- LEVEL 0. -/
theorem level0 (v0 : S2000x3.Idx → EReal) (v1 : S64x3.Idx → EReal) (f : S56x64.Idx → EReal) (X : ℕ → ℝ)
    (hX : ∀ j : Fin 64, rowPix (vertex v1 j) = X j.val) (r : Fin 2000) (c : Fin 64) :
    k0_pay21 (F := Ideal) (strip v0) (k0_pay20 (k0_pay4 (F := Ideal) v1)) f (ix2 r c)
      = bilinear (column (by decide) f c) (fun j => X j / 4) (rowPix (vertex v0 r) / 4) (colPix (vertex v0 r) / 4) := by
  have hp : ∀ j : Fin 64, k0_pay4 (F := Ideal) v1 (ix2 j 0) = ((X j.val : ℝ) : EReal) := fun j => by rw [head_pixel, hX]
  have h0 : ∀ j : Fin 64, 0 ≤ X j.val := fun j => by rw [← hX]; exact rowPix_nonneg _
  pointwise [k0_pay21, k0_pay20]
  refine strip_sum _ _ _ _ _ _ _ _ (div_nonneg (colPix_nonneg _) (by norm_num)) (ceil_lt _ 4 64 (by norm_num) (by norm_num) (by norm_num))
    (fun j => ?_) (fun j => ?_) (fun j => ?_) (fun j => ?_)
  · exact (strip_index v0 r _ _ (by simp)).trans (strip0 v0 r 0 j)
  · exact (strip_index v0 r _ _ (by simp)).trans (strip0 v0 r 1 j)
  · have key := floor_row (by decide) (by norm_num) f c (X j.val) 4 (h0 ⟨j.val, by omega⟩) (by norm_num) _ _ _ (hp ⟨j.val, by omega⟩) word_4 word_55
    generalize_proofs at *
    exact key
  · have key := ceil_row (by decide) (by norm_num) f c (X j.val) 4 (h0 ⟨j.val, by omega⟩) (by norm_num) _ _ _ (hp ⟨j.val, by omega⟩) word_4 word_55
    generalize_proofs at *
    exact key

/-- LEVEL 1. -/
theorem level1 (v0 : S2000x3.Idx → EReal) (v1 : S64x3.Idx → EReal) (f : S28x128.Idx → EReal) (X : ℕ → ℝ)
    (hX : ∀ j : Fin 64, rowPix (vertex v1 j) = X j.val) (r : Fin 2000) (c : Fin 128) :
    k0_pay22 (F := Ideal) (k0_pay4 (F := Ideal) v1) (strip v0) f (ix2 r c)
      = bilinear (column (by decide) f c) (fun j => X j / 8) (rowPix (vertex v0 r) / 8) (colPix (vertex v0 r) / 8) := by
  have hp : ∀ j : Fin 64, k0_pay4 (F := Ideal) v1 (ix2 j 0) = ((X j.val : ℝ) : EReal) := fun j => by rw [head_pixel, hX]
  have h0 : ∀ j : Fin 64, 0 ≤ X j.val := fun j => by rw [← hX]; exact rowPix_nonneg _
  pointwise [k0_pay22]
  refine strip_sum _ _ _ _ _ _ _ _ (div_nonneg (colPix_nonneg _) (by norm_num)) (ceil_lt _ 8 32 (by norm_num) (by norm_num) (by norm_num))
    (fun j => ?_) (fun j => ?_) (fun j => ?_) (fun j => ?_)
  · exact (strip_index v0 r _ _ (by simp)).trans (strip1 v0 r 0 j)
  · exact (strip_index v0 r _ _ (by simp; omega)).trans (strip1 v0 r 1 j)
  · have key := floor_row (by decide) (by norm_num) f c (X j.val) 8 (h0 ⟨j.val, by omega⟩) (by norm_num) _ _ _ (hp ⟨j.val, by omega⟩) word_8 word_27
    generalize_proofs at *
    exact key
  · have key := ceil_row (by decide) (by norm_num) f c (X j.val) 8 (h0 ⟨j.val, by omega⟩) (by norm_num) _ _ _ (hp ⟨j.val, by omega⟩) word_8 word_27
    generalize_proofs at *
    exact key

/-- LEVEL 2. -/
theorem level2 (v0 : S2000x3.Idx → EReal) (v1 : S64x3.Idx → EReal) (f : S14x256.Idx → EReal) (X : ℕ → ℝ)
    (hX : ∀ j : Fin 64, rowPix (vertex v1 j) = X j.val) (r : Fin 2000) (c : Fin 256) :
    k0_pay25 (F := Ideal) (strip v0) (k0_pay23 (k0_pay4 (F := Ideal) v1)) (k0_pay24 (k0_pay4 (F := Ideal) v1)) (Scalar.ofBits .f32 0x00000000#32) f (ix2 r c)
      = bilinear (column (by decide) f c) (fun j => X j / 16) (rowPix (vertex v0 r) / 16) (colPix (vertex v0 r) / 16) := by
  have hp : ∀ j : Fin 64, k0_pay4 (F := Ideal) v1 (ix2 j 0) = ((X j.val : ℝ) : EReal) := fun j => by rw [head_pixel, hX]
  have h0 : ∀ j : Fin 64, 0 ≤ X j.val := fun j => by rw [← hX]; exact rowPix_nonneg _
  pointwise [k0_pay25, k0_pay23, k0_pay24]
  refine strip_sum _ _ _ _ _ _ _ _ (div_nonneg (colPix_nonneg _) (by norm_num)) (ceil_lt _ 16 16 (by norm_num) (by norm_num) (by norm_num))
    (fun j => ?_) (fun j => ?_) (fun j => ?_) (fun j => ?_)
  · exact (strip_index v0 r _ _ (by simp)).trans (strip2 v0 r 0 j)
  · exact (strip_index v0 r _ _ (by simp; omega)).trans (strip2 v0 r 1 j)
  · have key := floor_row (by decide) (by norm_num) f c (X j.val) 16 (h0 ⟨j.val, by omega⟩) (by norm_num) _ _ _ (hp ⟨j.val, by omega⟩) word_16 word_13
    generalize_proofs at *
    exact key
  · have key := ceil_row (by decide) (by norm_num) f c (X j.val) 16 (h0 ⟨j.val, by omega⟩) (by norm_num) _ _ _ (hp ⟨j.val, by omega⟩) word_16 word_13
    generalize_proofs at *
    exact key

/-- LEVEL 3. -/
theorem level3 (v0 : S2000x3.Idx → EReal) (v1 : S64x3.Idx → EReal) (f : S7x512.Idx → EReal) (X : ℕ → ℝ)
    (hX : ∀ j : Fin 64, rowPix (vertex v1 j) = X j.val) (r : Fin 2000) (c : Fin 512) :
    k0_pay1 (F := Ideal) (strip v0) (k0_pay27 (k0_pay4 (F := Ideal) v1)) (k0_pay28 (k0_pay4 (F := Ideal) v1)) (iota .tc S8x7 32 [1] iota_S8x7_d1_w32) f (ix2 r c)
      = bilinear (column (by decide) f c) (fun j => X j / 32) (rowPix (vertex v0 r) / 32) (colPix (vertex v0 r) / 32) := by
  have hp : ∀ j : Fin 64, k0_pay4 (F := Ideal) v1 (ix2 j 0) = ((X j.val : ℝ) : EReal) := fun j => by rw [head_pixel, hX]
  have h0 : ∀ j : Fin 64, 0 ≤ X j.val := fun j => by rw [← hX]; exact rowPix_nonneg _
  pointwise [k0_pay1, k0_pay27, k0_pay28, k0_pay26]
  refine strip_sum _ _ _ _ _ _ _ _ (div_nonneg (colPix_nonneg _) (by norm_num)) (ceil_lt _ 32 8 (by norm_num) (by norm_num) (by norm_num))
    (fun j => ?_) (fun j => ?_) (fun j => ?_) (fun j => ?_)
  · exact (strip_index v0 r _ _ (by simp)).trans (strip3 v0 r 0 j)
  · exact (strip_index v0 r _ _ (by simp; omega)).trans (strip3 v0 r 1 j)
  · have key := floor_row (by decide) (by norm_num) f c (X j.val) 32 (h0 ⟨j.val, by omega⟩) (by norm_num) _ _ _ (hp ⟨j.val, by omega⟩) word_32 word_6
    generalize_proofs at *
    exact key
  · have key := ceil_row (by decide) (by norm_num) f c (X j.val) 32 (h0 ⟨j.val, by omega⟩) (by norm_num) _ _ _ (hp ⟨j.val, by omega⟩) word_32 word_6
    generalize_proofs at *
    exact key

end Cert.Proof

end
-- ==== Proof.Spec.lean ====
module

public import proofs.«01_k».proof.Proof.Strip

/-!
# The value both programs compute

One row of the result: the vertex itself, then the bilinear values of the four levels.
-/

@[expose] public section

noncomputable section

namespace Cert.Proof

open Idealize.ShloMosaic

/-- ONE ROW OF THE RESULT for the vertex `v`: its three coordinates, then the four levels' bilinear values at its pixel
    coordinates; `X` is the vertical pixel coordinate of each vertex by number. -/
def rowOut (v : Fin 3 → EReal) (X : ℕ → ℝ) (f0 : (⟨2, ![56, 64]⟩ : Shape).Idx → EReal) (f1 : (⟨2, ![28, 128]⟩ : Shape).Idx → EReal)
    (f2 : (⟨2, ![14, 256]⟩ : Shape).Idx → EReal) (f3 : (⟨2, ![7, 512]⟩ : Shape).Idx → EReal) (l : Fin 963) : EReal :=
  if h : l.val < 3 then v ⟨l.val, h⟩
  else if h : l.val < 67 then bilinear (column (by decide) f0 ⟨l.val - 3, by omega⟩) (fun j => X j / 4) (rowPix v / 4) (colPix v / 4)
  else if h : l.val < 195 then bilinear (column (by decide) f1 ⟨l.val - 67, by omega⟩) (fun j => X j / 8) (rowPix v / 8) (colPix v / 8)
  else if h : l.val < 451 then bilinear (column (by decide) f2 ⟨l.val - 195, by omega⟩) (fun j => X j / 16) (rowPix v / 16) (colPix v / 16)
  else bilinear (column (by decide) f3 ⟨l.val - 451, by omega⟩) (fun j => X j / 32) (rowPix v / 32) (colPix v / 32)

/-- The vertical pixel coordinate of each vertex by number, a number past the last vertex giving the last one's. -/
def vertexRow (A : (⟨2, ![100000, 3]⟩ : Shape).Idx → EReal) (j : ℕ) : ℝ := rowPix (vertex A ⟨min j 99999, by omega⟩)

/-- THE RESULT at a row and a lane. -/
def result (f0 : (⟨2, ![56, 64]⟩ : Shape).Idx → EReal) (f1 : (⟨2, ![28, 128]⟩ : Shape).Idx → EReal)
    (f2 : (⟨2, ![14, 256]⟩ : Shape).Idx → EReal) (f3 : (⟨2, ![7, 512]⟩ : Shape).Idx → EReal)
    (A : (⟨2, ![100000, 3]⟩ : Shape).Idx → EReal) (i : Fin 100000) (l : Fin 963) : EReal :=
  rowOut (vertex A i) (vertexRow A) f0 f1 f2 f3 l

end Cert.Proof

end
-- ==== Proof.Block.lean ====
module

public import proofs.«01_k».proof.Proof.Level
public import proofs.«01_k».proof.Proof.Spec
public import proofs.«01_k».proof.Proof.Gen.KernelIdeal.Value

/-!
# What one block of the kernel holds
-/

@[expose] public section

noncomputable section

namespace Cert.Proof

open Idealize.ShloMosaic Cert.KernelIdeal Cert.KernelIdeal.Gen

/-- The whole-buffer loads start at offset zero. -/
theorem offset_zero : (![0, 0] : Fin 2 → ℕ) = fun _ => 0 := by funext k; fin_cases k <;> rfl

/-- THE RESULT'S BLOCK for a block `v0` of vertices, by its index. -/
def blockOut (v0 : S2000x3.Idx → EReal) (X : ℕ → ℝ) (f0 : S56x64.Idx → EReal) (f1 : S28x128.Idx → EReal) (f2 : S14x256.Idx → EReal)
    (f3 : S7x512.Idx → EReal) : S2000x963.Idx → EReal :=
  fun y => rowOut (vertex v0 (y 0)) X f0 f1 f2 f3 (y 1)

/-- Where a piece of the result's buffer that starts at lane `o` puts its entry `(r, j)`: row `r`, lane `o + j`. -/
theorem piece_at {o b : ℕ} (inb : ∀ k, (![0, o] : Fin 2 → ℕ) k + (![2000, b] : Fin 2 → ℕ) k ≤ S2000x963.size k) (r : Fin 2000)
    (j : Fin b) (h : o + j.val < 963) :
    (Rect.unit (s := S2000x963) ![0, o] ![2000, b] inb).emb (ix2 r j) = ix2 r ⟨o + j.val, h⟩ := by
  funext k
  apply Fin.ext
  rw [Rect.emb_apply]
  fin_cases k <;> simp [Rect.unit, ix2]

/-- So a piece whose entries are `G`'s at those places holds `G`'s part. -/
theorem piece_eq {o b : ℕ} (inb : ∀ k, (![0, o] : Fin 2 → ℕ) k + (![2000, b] : Fin 2 → ℕ) k ≤ S2000x963.size k)
    (P : (⟨2, ![2000, b]⟩ : Shape).Idx → EReal) (G : S2000x963.Idx → EReal)
    (h : ∀ (r : Fin 2000) (j : Fin b) (hj : o + j.val < 963), P (ix2 r j) = G (ix2 r ⟨o + j.val, hj⟩))
    (y : (⟨2, ![2000, b]⟩ : Shape).Idx) : P y = G ((Rect.unit (s := S2000x963) ![0, o] ![2000, b] inb).emb y) := by
  have hob : o + b ≤ 963 := inb 1
  obtain ⟨r, j, rfl⟩ : ∃ (r : Fin 2000) (j : Fin b), y = ix2 r j := ⟨y 0, y 1, eq_ix2 y⟩
  rw [piece_at inb r j (by omega)]
  exact h r j _

section lanes

variable (v0 : S2000x3.Idx → EReal) (X : ℕ → ℝ) (f0 : S56x64.Idx → EReal) (f1 : S28x128.Idx → EReal) (f2 : S14x256.Idx → EReal)
  (f3 : S7x512.Idx → EReal) (r : Fin 2000)

/-- The block's first three lanes are the vertex, -/
theorem blockOut_coord (j : Fin 3) (hj : 0 + j.val < 963) : v0 (ix2 r j) = blockOut v0 X f0 f1 f2 f3 (ix2 r ⟨0 + j.val, hj⟩) := by
  have h : (0 + j.val) < 3 := by omega
  show v0 (ix2 r j) = rowOut (vertex v0 r) X f0 f1 f2 f3 ⟨0 + j.val, hj⟩
  unfold rowOut
  rw [dif_pos h]
  exact congrArg (fun k : Fin 3 => v0 (ix2 r k)) (show j = ⟨0 + j.val, h⟩ from Fin.ext (Nat.zero_add _).symm)

/-- the next 64 level 0's values, -/
theorem blockOut_level0 (j : Fin 64) (hj : 3 + j.val < 963) :
    bilinear (column (by decide) f0 j) (fun j => X j / 4) (rowPix (vertex v0 r) / 4) (colPix (vertex v0 r) / 4)
      = blockOut v0 X f0 f1 f2 f3 (ix2 r ⟨3 + j.val, hj⟩) := by
  have h0 : ¬ (3 + j.val) < 3 := by omega
  have h : (3 + j.val) < 67 := by omega
  simp only [blockOut, rowOut, ix2_0, ix2_1, dif_neg h0, dif_pos h, Nat.add_sub_cancel_left]

/-- the next 128 level 1's, -/
theorem blockOut_level1 (j : Fin 128) (hj : 67 + j.val < 963) :
    bilinear (column (by decide) f1 j) (fun j => X j / 8) (rowPix (vertex v0 r) / 8) (colPix (vertex v0 r) / 8)
      = blockOut v0 X f0 f1 f2 f3 (ix2 r ⟨67 + j.val, hj⟩) := by
  have h0 : ¬ (67 + j.val) < 3 := by omega
  have h1 : ¬ (67 + j.val) < 67 := by omega
  have h : (67 + j.val) < 195 := by omega
  simp only [blockOut, rowOut, ix2_0, ix2_1, dif_neg h0, dif_neg h1, dif_pos h, Nat.add_sub_cancel_left]

/-- the next 256 level 2's, -/
theorem blockOut_level2 (j : Fin 256) (hj : 195 + j.val < 963) :
    bilinear (column (by decide) f2 j) (fun j => X j / 16) (rowPix (vertex v0 r) / 16) (colPix (vertex v0 r) / 16)
      = blockOut v0 X f0 f1 f2 f3 (ix2 r ⟨195 + j.val, hj⟩) := by
  have h0 : ¬ (195 + j.val) < 3 := by omega
  have h1 : ¬ (195 + j.val) < 67 := by omega
  have h2 : ¬ (195 + j.val) < 195 := by omega
  have h : (195 + j.val) < 451 := by omega
  simp only [blockOut, rowOut, ix2_0, ix2_1, dif_neg h0, dif_neg h1, dif_neg h2, dif_pos h, Nat.add_sub_cancel_left]

/-- and the last 512 level 3's. -/
theorem blockOut_level3 (j : Fin 512) (hj : 451 + j.val < 963) :
    bilinear (column (by decide) f3 j) (fun j => X j / 32) (rowPix (vertex v0 r) / 32) (colPix (vertex v0 r) / 32)
      = blockOut v0 X f0 f1 f2 f3 (ix2 r ⟨451 + j.val, hj⟩) := by
  have h0 : ¬ (451 + j.val) < 3 := by omega
  have h1 : ¬ (451 + j.val) < 67 := by omega
  have h2 : ¬ (451 + j.val) < 195 := by omega
  have h : ¬ (451 + j.val) < 451 := by omega
  simp only [blockOut, rowOut, ix2_0, ix2_1, dif_neg h0, dif_neg h1, dif_neg h2, dif_neg h, Nat.add_sub_cancel_left]

end lanes

/-- THE BLOCK: whatever the staging buffers, the body leaves row `r`, lane `l` of the result's buffer at the row of the result
    for vertex `r` of the block. -/
theorem block_value (c : Dev nD) (i : grid0.Coords) (arg1 : Memref sig .tc .vmem S64x3 .f32) (harg1 : arg1.IsWhole) (arg2 : Memref sig .tc .vmem S56x64 .f32) (harg2 : arg2.IsWhole) (arg3 : Memref sig .tc .vmem S28x128 .f32) (harg3 : arg3.IsWhole) (arg4 : Memref sig .tc .vmem S14x256 .f32) (harg4 : arg4.IsWhole) (arg5 : Memref sig .tc .vmem S7x512 .f32) (harg5 : arg5.IsWhole) (arg6 : Memref sig .tc .vmem S2x256 .f32) (harg6 : arg6.IsWhole) (arg7 : Memref sig .tc .vmem S8x256 .f32) (harg7 : arg7.IsWhole) (arg8 : Memref sig .tc .vmem S2000x3 .f32) (harg8 : arg8.IsWhole) (arg9 : Memref sig .tc .vmem S2000x963 .f32) (harg9 : arg9.IsWhole)
    (v1 : S64x3.Idx → EReal) (f0 : S56x64.Idx → EReal) (f1 : S28x128.Idx → EReal) (f2 : S14x256.Idx → EReal) (f3 : S7x512.Idx → EReal)
    (v0 : S2000x3.Idx → EReal) (X : ℕ → ℝ) (hX : ∀ j : Fin 64, rowPix (vertex v1 j) = X j.val) (r : Fin 2000) (l : Fin 963) :
    out0_A_8 (F := Ideal) c i arg1 harg1 arg2 harg2 arg3 harg3 arg4 harg4 arg5 harg5 arg6 harg6 arg7 harg7 arg8 harg8 arg9 harg9 v1 f0 f1 f2 f3 laneTab spreadTab v0 (ix2 r l)
      = rowOut (vertex v0 r) X f0 f1 f2 f3 l := by
  have hc := cover0_A_8 (F := Ideal) c i arg1 harg1 arg2 harg2 arg3 harg3 arg4 harg4 arg5 harg5 arg6 harg6 arg7 harg7 arg8 harg8 arg9 harg9 v1 f0 f1 f2 f3 laneTab spreadTab v0
  unfold out0_A_8
  rw [View.read_writes_eq_canon _ _ _ hc]
  refine View.canon_apply_of_pieces (blockOut v0 X f0 f1 f2 f3) _ ?_ (ix2 r l) (hc _)
  unfold kernelRun0_A
  dsimp only
  sl_unfold_words
  simp only [View.readAt_eq_ld, harg1.read_unread, harg2.read_unread, harg3.read_unread, harg4.read_unread, harg5.read_unread, harg6.read_unread, harg7.read_unread, harg8.read_unread]
  simp only [View.ld_unit_zero (S := S64x3) offset_zero, View.ld_unit_zero (S := S56x64) offset_zero, View.ld_unit_zero (S := S28x128) offset_zero, View.ld_unit_zero (S := S14x256) offset_zero, View.ld_unit_zero (S := S7x512) offset_zero, View.ld_unit_zero (S := S2x256) offset_zero, View.ld_unit_zero (S := S8x256) offset_zero, View.ld_unit_zero (S := S2000x3) offset_zero]
  intro p hp y
  simp only [List.mem_cons, List.not_mem_nil, or_false] at hp
  rcases hp with rfl | rfl | rfl | rfl | rfl
  · exact piece_eq inb_S2000x963_S2000x512_0_451 _ _ (fun r j hj => (level3 v0 v1 f3 X hX r j).trans (blockOut_level3 v0 X f0 f1 f2 f3 r j hj)) y
  · exact piece_eq inb_S2000x963_S2000x256_0_195 _ _ (fun r j hj => (level2 v0 v1 f2 X hX r j).trans (blockOut_level2 v0 X f0 f1 f2 f3 r j hj)) y
  · exact piece_eq inb_S2000x963_S2000x128_0_67 _ _ (fun r j hj => (level1 v0 v1 f1 X hX r j).trans (blockOut_level1 v0 X f0 f1 f2 f3 r j hj)) y
  · exact piece_eq inb_S2000x963_S2000x64_0_3 _ _ (fun r j hj => (level0 v0 v1 f0 X hX r j).trans (blockOut_level0 v0 X f0 f1 f2 f3 r j hj)) y
  · exact piece_eq inb_S2000x963_S2000x3_0_0 _ _ (fun r j hj => blockOut_coord v0 X f0 f1 f2 f3 r j hj) y

end Cert.Proof

end
-- ==== Proof.Array.lean ====
module

public import proofs.«01_k».proof.Proof.Block

/-!
# What the result array holds after the kernel's run

The grid has 50 points. Point `t` is given the first 64 vertices, the four feature maps whole, the two constant tables whole,
and vertices `2000 t` to `2000 t + 1999`; it writes rows `2000 t` to `2000 t + 1999` of the result. So each row of the result
is written by exactly one point, with what `block_value` says.
-/

@[expose] public section

noncomputable section

namespace Cert.Proof

open Idealize.ShloMosaic Idealize.ShloMosaic.TcCoe Cert.KernelIdeal Cert.KernelIdeal.Gen

variable (m : (ℓ : Loc nD τ sig) → Buf (Elt Ideal) ℓ) (c : Dev nD) (t : Fin cfg0.N)

/-- Where the windows lie: the blocks of vertices and of the result advance with the point, every other window stays. -/
theorem places : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- The grid has 50 points. -/
theorem points : cfg0.N = 50 := by decide +kernel

/-- Every point writes its block back. -/
theorem flushes : ∀ t : Fin cfg0.N, (cfg0.win 8).flush t = true := by decide +kernel

/-- The point's row `r` is a row of the result. -/
theorem row_lt (r : Fin 2000) : 2000 * t.val + r.val < 100000 := by
  have h : t.val < 50 := points ▸ t.isLt
  omega

/-- Feature map 0 is staged whole, -/
theorem staged1 : iblk m c 1 t = m ((c : Thread nD τ).loc main_arg0) := by
  obtain ⟨_, ⟨e0, e1⟩, _⟩ := places t
  rw [← V_main_arg0 m c]
  funext z
  show V m c main_arg0 (((cfg0.win 1).blk t).view.emb z) = V m c main_arg0 z
  refine congrArg _ (funext fun a => Fin.ext ?_)
  match a with
  | ⟨0, _⟩ => show win0_1.index t (0 : Fin 2) * 56 + 1 * (z 0).val = (z 0).val; omega
  | ⟨1, _⟩ => show win0_1.index t (1 : Fin 2) * 64 + 1 * (z 1).val = (z 1).val; omega

/-- feature map 1, -/
theorem staged2 : iblk m c 2 t = m ((c : Thread nD τ).loc main_arg1) := by
  obtain ⟨_, _, ⟨e0, e1⟩, _⟩ := places t
  rw [← V_main_arg1 m c]
  funext z
  show V m c main_arg1 (((cfg0.win 2).blk t).view.emb z) = V m c main_arg1 z
  refine congrArg _ (funext fun a => Fin.ext ?_)
  match a with
  | ⟨0, _⟩ => show win0_2.index t (0 : Fin 2) * 28 + 1 * (z 0).val = (z 0).val; omega
  | ⟨1, _⟩ => show win0_2.index t (1 : Fin 2) * 128 + 1 * (z 1).val = (z 1).val; omega

/-- feature map 2, -/
theorem staged3 : iblk m c 3 t = m ((c : Thread nD τ).loc main_arg2) := by
  obtain ⟨_, _, _, ⟨e0, e1⟩, _⟩ := places t
  rw [← V_main_arg2 m c]
  funext z
  show V m c main_arg2 (((cfg0.win 3).blk t).view.emb z) = V m c main_arg2 z
  refine congrArg _ (funext fun a => Fin.ext ?_)
  match a with
  | ⟨0, _⟩ => show win0_3.index t (0 : Fin 2) * 14 + 1 * (z 0).val = (z 0).val; omega
  | ⟨1, _⟩ => show win0_3.index t (1 : Fin 2) * 256 + 1 * (z 1).val = (z 1).val; omega

/-- feature map 3, -/
theorem staged4 : iblk m c 4 t = m ((c : Thread nD τ).loc main_arg3) := by
  obtain ⟨_, _, _, _, ⟨e0, e1⟩, _⟩ := places t
  rw [← V_main_arg3 m c]
  funext z
  show V m c main_arg3 (((cfg0.win 4).blk t).view.emb z) = V m c main_arg3 z
  refine congrArg _ (funext fun a => Fin.ext ?_)
  match a with
  | ⟨0, _⟩ => show win0_4.index t (0 : Fin 2) * 7 + 1 * (z 0).val = (z 0).val; omega
  | ⟨1, _⟩ => show win0_4.index t (1 : Fin 2) * 512 + 1 * (z 1).val = (z 1).val; omega

/-- What the host writes in the lane table's buffer before the grid starts, -/
theorem host_lane : V m c main_call0_cst = laneTab := by
  unfold V hostOps0
  simp only [StableHlo.after_cons, StableHlo.after_nil]
  rfl

/-- and in the spreading table's. -/
theorem host_spread : V m c main_call0_cst_0 = spreadTab := by
  unfold V hostOps0
  simp only [StableHlo.after_cons, StableHlo.after_nil]
  rfl

/-- The lane table is staged whole, -/
theorem staged5 : iblk m c 5 t = laneTab := by
  obtain ⟨_, _, _, _, _, ⟨e0, e1⟩, _⟩ := places t
  rw [← host_lane m c]
  funext z
  show V m c main_call0_cst (((cfg0.win 5).blk t).view.emb z) = V m c main_call0_cst z
  refine congrArg _ (funext fun a => Fin.ext ?_)
  match a with
  | ⟨0, _⟩ => show win0_5.index t (0 : Fin 2) * 2 + 1 * (z 0).val = (z 0).val; omega
  | ⟨1, _⟩ => show win0_5.index t (1 : Fin 2) * 256 + 1 * (z 1).val = (z 1).val; omega

/-- and the spreading table. -/
theorem staged6 : iblk m c 6 t = spreadTab := by
  obtain ⟨_, _, _, _, _, _, ⟨e0, e1⟩, _⟩ := places t
  rw [← host_spread m c]
  funext z
  show V m c main_call0_cst_0 (((cfg0.win 6).blk t).view.emb z) = V m c main_call0_cst_0 z
  refine congrArg _ (funext fun a => Fin.ext ?_)
  match a with
  | ⟨0, _⟩ => show win0_6.index t (0 : Fin 2) * 8 + 1 * (z 0).val = (z 0).val; omega
  | ⟨1, _⟩ => show win0_6.index t (1 : Fin 2) * 256 + 1 * (z 1).val = (z 1).val; omega

/-- Row `r` of the point's block of vertices is vertex `2000 t + r`. -/
theorem staged7 (r : Fin 2000) :
    vertex (iblk m c 7 t) r = vertex (m ((c : Thread nD τ).loc main_arg4)) ⟨2000 * t.val + r.val, row_lt t r⟩ := by
  obtain ⟨_, _, _, _, _, _, _, ⟨e0, e1⟩, _⟩ := places t
  rw [← V_main_arg4 m c]
  funext k
  show V m c main_arg4 (((cfg0.win 7).blk t).view.emb (ix2 r k)) = V m c main_arg4 (ix2 ⟨2000 * t.val + r.val, row_lt t r⟩ k)
  refine congrArg _ (funext fun a => Fin.ext ?_)
  match a with
  | ⟨0, _⟩ => show win0_7.index t (0 : Fin 2) * 2000 + 1 * r.val = 2000 * t.val + r.val; omega
  | ⟨1, _⟩ => show win0_7.index t (1 : Fin 2) * 3 + 1 * k.val = k.val; omega

/-- Row `j` of the staged head is vertex `j`. -/
theorem staged0 (j : Fin 64) :
    vertex (X0_0 m c t) j = vertex (m ((c : Thread nD τ).loc main_arg4)) ⟨j.val, by omega⟩ := by
  obtain ⟨⟨e0, e1⟩, _⟩ := places t
  rw [← V_main_arg4 m c]
  funext k
  show X0_0 m c t (ix2 j k) = V m c main_arg4 (ix2 ⟨j.val, _⟩ k)
  unfold X0_0 Pipeline.Window.fill
  rw [dif_pos (moved0_0 t (ix2 j k))]
  show V m c main_arg4 (((cfg0.win 0).blk t).view.emb _) = V m c main_arg4 (ix2 ⟨j.val, _⟩ k)
  refine congrArg _ (funext fun a => Fin.ext ?_)
  match a with
  | ⟨0, _⟩ => show win0_0.index t (0 : Fin 2) * 64 + 1 * j.val = j.val; omega
  | ⟨1, _⟩ => show win0_0.index t (1 : Fin 2) * 3 + 1 * k.val = k.val; omega

/-- So the vertical pixel coordinate of the head's row `j` is that of vertex number `j`. -/
theorem head_row (j : Fin 64) : rowPix (vertex (X0_0 m c t) j) = vertexRow (m ((c : Thread nD τ).loc main_arg4)) j.val := by
  rw [staged0]
  unfold vertexRow
  exact congrArg (fun k => rowPix (vertex (m ((c : Thread nD τ).loc main_arg4)) k)) (Fin.ext (by show j.val = min j.val 99999; omega))

/-- Row `r`, lane `l` of the point's block of the result is row `2000 t + r`, lane `l` of the array. -/
theorem result_place (r : Fin 2000) (l : Fin 963) :
    ((cfg0.win 8).blk t).view.emb (ix2 r l) = ix2 ⟨2000 * t.val + r.val, row_lt t r⟩ l := by
  obtain ⟨_, _, _, _, _, _, _, _, e0, e1⟩ := places t
  refine funext fun a => Fin.ext ?_
  match a with
  | ⟨0, _⟩ => show win0_8.index t (0 : Fin 2) * 2000 + 1 * r.val = 2000 * t.val + r.val; omega
  | ⟨1, _⟩ => show win0_8.index t (1 : Fin 2) * 963 + 1 * l.val = l.val; omega

/-- After the run, row `2000 t + r`, lane `l` of the array holds the result there. -/
theorem array_block (r : Fin 2000) (l : Fin 963) :
    (dats m 0 c).arrAt 8 cfg0.N (ix2 ⟨2000 * t.val + r.val, row_lt t r⟩ l)
      = result (m ((c : Thread nD τ).loc main_arg0)) (m ((c : Thread nD τ).loc main_arg1)) (m ((c : Thread nD τ).loc main_arg2))
          (m ((c : Thread nD τ).loc main_arg3)) (m ((c : Thread nD τ).loc main_arg4)) ⟨2000 * t.val + r.val, row_lt t r⟩ l := by
  have b := congrFun (Value.blocks8 m c t (flushes t)) (ix2 r l)
  rw [Value.flushed8_A] at b
  have b' : (dats m 0 c).arrAt 8 cfg0.N (((cfg0.win 8).blk t).view.emb (ix2 r l)) = _ := b
  rw [result_place] at b'
  refine b'.trans ?_
  show out0_A_8 (F := Ideal) _ _ _ _ _ _ _ _ _ _ _ _ _ _ _ _ _ _ _ _ _ _ _ _ _ _ _ _ (ix2 r l) = _
  rw [staged1, staged2, staged3, staged4, staged5, staged6]
  refine (block_value c _ _ _ _ _ _ _ _ _ _ _ _ _ _ _ _ _ _ _ _ _ _ _ _ _ _ (head_row m c t) r l).trans ?_
  rw [staged7]
  rfl

/-- THE ARRAY: after the run, the result array holds at every row and lane the result there. -/
theorem array_value (i : Fin 100000) (l : Fin 963) :
    (dats m 0 c).arrAt 8 cfg0.N (ix2 i l)
      = result (m ((c : Thread nD τ).loc main_arg0)) (m ((c : Thread nD τ).loc main_arg1)) (m ((c : Thread nD τ).loc main_arg2))
          (m ((c : Thread nD τ).loc main_arg3)) (m ((c : Thread nD τ).loc main_arg4)) i l := by
  have h : i.val / 2000 < cfg0.N := by rw [points]; omega
  have e : i = ⟨2000 * (⟨i.val / 2000, h⟩ : Fin cfg0.N).val + (⟨i.val % 2000, by omega⟩ : Fin 2000).val, row_lt _ _⟩ :=
    Fin.ext (Nat.div_add_mod i.val 2000).symm
  rw [e]
  exact array_block m c ⟨i.val / 2000, h⟩ ⟨i.val % 2000, by omega⟩ l

end Cert.Proof

end
-- ==== Proof.Lerp.lean ====
module

public import proofs.«01_k».proof.Proof.Bilinear
public import Idealize.ShloMosaic.Lib.StableHlo.Predicate

/-!
# The reference's interpolation of one level

Two nested takes read the feature row of the vertex a horizontal coordinate names; four of them, weighted, are the bilinear value.
-/

@[expose] public section

noncomputable section

namespace Cert.Proof

open Idealize.ShloMosaic

/-- The conditions on the dimension numbers of a take of rows. -/
abbrev RowTake (n N C : ℕ) : Prop := GatherDims.WF (⟨2, ![n, C]⟩ : Shape) ⟨2, ![N, 1]⟩ ⟨2, ![N, C]⟩ [1] [0] [] [0] [] 1 ![1, C]

/-- The dimension numbers of a take of rows. -/
def rowTake (n N C : ℕ) (wf : RowTake n N C) :
    GatherDims (⟨2, ![n, C]⟩ : Shape) ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- A take of rows reads the named row, a number past the last row reading the last row. -/
theorem rowTake_apply {n N C : ℕ} (hn : 0 < n) (wf : RowTake n N C) (x : (⟨2, ![n, C]⟩ : Shape).Idx → EReal) (idx : IVec ⟨2, ![N, 1]⟩ 32) (i : Fin N) (c : Fin C)
    (k : ℕ) (hk : idx (ix2 i 0) = BitVec.ofNat 32 k) (hk' : k < 2 ^ 31) :
    Host.gather (rowTake n N C wf) x idx (ix2 i c) = column hn x c k := by
  have hs : ∀ p : Fin 1, (rowTake n N C wf).siIdx (ix2 i c) p = ix2 i 0 := fun p => funext fun b => Fin.ext <| by
    match b with
    | ⟨0, _⟩ => rfl
    | ⟨1, _⟩ => show p.val = 0; omega
  refine congrArg x (funext fun a => Fin.ext ?_)
  match a with
  | ⟨0, _⟩ =>
    refine (congrArg (fun z => min (idx z).toInt.toNat (n - 1) + 0 + 0) (hs ⟨0, Nat.one_pos⟩)).trans ?_
    show min (idx (ix2 i 0)).toInt.toNat (n - 1) + 0 + 0 = min k (n - 1)
    rw [hk, toInt_word k hk']
    simp
  | ⟨1, _⟩ =>
    show 0 + 0 + c.val = c.val
    omega

/-- A list stood up as one column. -/
theorem column_bcast {α : Type} {N : ℕ} (b : (⟨1, ![N]⟩ : Shape).BroadcastsInDim ⟨2, ![N, 1]⟩ ![0]) (v : (⟨1, ![N]⟩ : Shape).Idx → α) (i : Fin N) (z : Fin 1) :
    broadcastInDim ⟨2, ![N, 1]⟩ ![0] b v (ix2 i z) = v (ix1 i) := by
  refine congrArg v (funext fun a => Fin.ext ?_)
  match a with
  | ⟨0, _⟩ =>
    split
    · rename_i h1
      have h1' : N = 1 := h1
      show 0 = i.val
      omega
    · rfl

/-- A column repeated along the rows. -/
theorem row_bcast {α : Type} {N C : ℕ} (b : (⟨2, ![N, 1]⟩ : Shape).BroadcastsInDim ⟨2, ![N, C]⟩ ![0, 1]) (v : (⟨2, ![N, 1]⟩ : Shape).Idx → α)
    (i : Fin N) (c : Fin C) : broadcastInDim ⟨2, ![N, C]⟩ ![0, 1] b v (ix2 i c) = v (ix2 i 0) := by
  refine congrArg v (funext fun a => Fin.ext ?_)
  match a with
  | ⟨0, _⟩ =>
    split
    · rename_i h1
      have h1' : N = 1 := h1
      show 0 = i.val
      omega
    · rfl
  | ⟨1, _⟩ => rfl

/-- A list of weights spread over the columns. -/
def spread {N C : ℕ} (b₁ : (⟨1, ![N]⟩ : Shape).BroadcastsInDim ⟨2, ![N, 1]⟩ ![0]) (b₂ : (⟨2, ![N, 1]⟩ : Shape).BroadcastsInDim ⟨2, ![N, C]⟩ ![0, 1])
    (w : FVec Ideal ⟨1, ![N]⟩ .f32) : FVec Ideal ⟨2, ![N, C]⟩ .f32 :=
  broadcastInDim ⟨2, ![N, C]⟩ ![0, 1] b₂ (broadcastInDim ⟨2, ![N, 1]⟩ ![0] b₁ w)

theorem spread_apply {N C : ℕ} (b₁) (b₂) (w : FVec Ideal ⟨1, ![N]⟩ .f32) (i : Fin N) (c : Fin C) : spread b₁ b₂ w (ix2 i c) = w (ix1 i) :=
  (row_bcast b₂ _ i c).trans (column_bcast b₁ w i 0)

/-- Two nested takes: the feature row of each vertex, then the row of the vertex named. -/
def takes {S N C : ℕ} (wf₀ : RowTake S N C) (wf₁ : RowTake N N C) (b₁ : (⟨1, ![N]⟩ : Shape).BroadcastsInDim ⟨2, ![N, 1]⟩ ![0])
    (T : FVec Ideal ⟨2, ![S, C]⟩ .f32) (r q : IVec ⟨1, ![N]⟩ 32) : FVec Ideal ⟨2, ![N, C]⟩ .f32 :=
  Host.gather (rowTake N N C wf₁) (Host.gather (rowTake S N C wf₀) T (broadcastInDim ⟨2, ![N, 1]⟩ ![0] b₁ r)) (broadcastInDim ⟨2, ![N, 1]⟩ ![0] b₁ q)

theorem takes_apply {S N C : ℕ} (hS : 0 < S) (hN : 0 < N) (wf₀ : RowTake S N C) (wf₁ : RowTake N N C) (b₁)
    (T : FVec Ideal ⟨2, ![S, C]⟩ .f32) (r q : IVec ⟨1, ![N]⟩ 32) (R Q : Fin N → ℕ) (hr : ∀ i, r (ix1 i) = BitVec.ofNat 32 (R i))
    (hq : ∀ i, q (ix1 i) = BitVec.ofNat 32 (Q i)) (hR : ∀ i, R i < 2 ^ 31) (hQ : ∀ i, Q i < 2 ^ 31) (i : Fin N) (c : Fin C) :
    takes wf₀ wf₁ b₁ T r q (ix2 i c) = column hS T c (R ⟨min (Q i) (N - 1), by omega⟩) := by
  unfold takes
  rw [rowTake_apply hN wf₁ _ _ i c (Q i) ((column_bcast b₁ q i 0).trans (hq i)) (hQ i)]
  exact rowTake_apply hS wf₀ _ _ _ c (R ⟨min (Q i) (N - 1), by omega⟩) ((column_bcast b₁ r _ 0).trans (hr _)) (hR _)

/-- The reference's interpolation of one level: the takes, the four weights and their sum, in its order. -/
def lerp {S N C : ℕ} (wf₀ : RowTake S N C) (wf₁ : RowTake N N C) (b₁ : (⟨1, ![N]⟩ : Shape).BroadcastsInDim ⟨2, ![N, 1]⟩ ![0])
    (b₂ : (⟨2, ![N, 1]⟩ : Shape).BroadcastsInDim ⟨2, ![N, C]⟩ ![0, 1])
    (T : FVec Ideal ⟨2, ![S, C]⟩ .f32) (x y : FVec Ideal ⟨1, ![N]⟩ .f32) (x₁ x₂ y₁ y₂ : IVec ⟨1, ![N]⟩ 32) : FVec Ideal ⟨2, ![N, C]⟩ .f32 :=
  addf (addf (addf
    (mulf (spread b₁ b₂ (mulf (subf (sitofp .f32 x₂) x) (subf (sitofp .f32 y₂) y))) (takes wf₀ wf₁ b₁ T x₁ y₁))
    (mulf (spread b₁ b₂ (mulf (subf x (sitofp .f32 x₁)) (subf (sitofp .f32 y₂) y))) (takes wf₀ wf₁ b₁ T x₂ y₁)))
    (mulf (spread b₁ b₂ (mulf (subf (sitofp .f32 x₂) x) (subf y (sitofp .f32 y₁)))) (takes wf₀ wf₁ b₁ T x₁ y₂)))
    (mulf (spread b₁ b₂ (mulf (subf x (sitofp .f32 x₁)) (subf y (sitofp .f32 y₁)))) (takes wf₀ wf₁ b₁ T x₂ y₂))

/-- THE REFERENCE'S INTERPOLATION IS THE BILINEAR VALUE, at coordinates that are real numbers. -/
theorem lerp_apply {S N C : ℕ} (hS : 0 < S) (hN : 0 < N) (wf₀ : RowTake S N C) (wf₁ : RowTake N N C) (b₁) (b₂)
    (T : FVec Ideal ⟨2, ![S, C]⟩ .f32) (x y : FVec Ideal ⟨1, ![N]⟩ .f32) (x₁ x₂ y₁ y₂ : IVec ⟨1, ![N]⟩ 32) (X Y : Fin N → ℝ)
    (hx : ∀ i, x (ix1 i) = ((X i : ℝ) : EReal)) (hy : ∀ i, y (ix1 i) = ((Y i : ℝ) : EReal))
    (hx₁ : ∀ i, x₁ (ix1 i) = BitVec.ofNat 32 ⌊X i⌋₊) (hx₂ : ∀ i, x₂ (ix1 i) = BitVec.ofNat 32 ⌈X i⌉₊)
    (hy₁ : ∀ i, y₁ (ix1 i) = BitVec.ofNat 32 ⌊Y i⌋₊) (hy₂ : ∀ i, y₂ (ix1 i) = BitVec.ofNat 32 ⌈Y i⌉₊)
    (hX : ∀ i, ⌈X i⌉₊ < 2 ^ 31) (hY : ∀ i, ⌈Y i⌉₊ < 2 ^ 31)
    (i : Fin N) (c : Fin C) :
    lerp wf₀ wf₁ b₁ b₂ T x y x₁ x₂ y₁ y₂ (ix2 i c)
      = bilinear (column hS T c) (fun j => X ⟨min j (N - 1), by omega⟩) (X i) (Y i) := by
  have hX' : ∀ i, ⌊X i⌋₊ < 2 ^ 31 := fun i => lt_of_le_of_lt (Nat.floor_le_ceil _) (hX i)
  have hY' : ∀ i, ⌊Y i⌋₊ < 2 ^ 31 := fun i => lt_of_le_of_lt (Nat.floor_le_ceil _) (hY i)
  have hi : ∀ (v : IVec ⟨1, ![N]⟩ 32) (n : ℕ), v (ix1 i) = BitVec.ofNat 32 n → n < 2 ^ 31 →
      sitofp (F := Ideal) .f32 v (ix1 i) = (((n : ℕ) : ℝ) : EReal) := fun v n hv hn => by
    show ((((v (ix1 i)).toInt : ℤ) : ℝ) : EReal) = _
    rw [hv, toInt_word n hn]; norm_cast
  unfold lerp
  simp only [addf_apply, mulf_apply, subf_apply, Ideal.addf_def, Ideal.mulf_def, Ideal.subf_def, spread_apply]
  rw [takes_apply hS hN wf₀ wf₁ b₁ T x₁ y₁ _ _ hx₁ hy₁ hX' hY', takes_apply hS hN wf₀ wf₁ b₁ T x₂ y₁ _ _ hx₂ hy₁ hX hY',
    takes_apply hS hN wf₀ wf₁ b₁ T x₁ y₂ _ _ hx₁ hy₂ hX' hY, takes_apply hS hN wf₀ wf₁ b₁ T x₂ y₂ _ _ hx₂ hy₂ hX hY,
    hx, hy, hi _ _ (hx₁ i) (hX' i), hi _ _ (hx₂ i) (hX i), hi _ _ (hy₁ i) (hY' i), hi _ _ (hy₂ i) (hY i)]
  simp only [← EReal.coe_sub, ← EReal.coe_mul]
  rfl

end Cert.Proof

end
-- ==== Proof.RefValue.lean ====
module

public import proofs.«01_k».proof.Proof.Lerp
public import proofs.«01_k».proof.Proof.Spec
public import proofs.«01_k».proof.Proof.Gen.ReferenceIdeal.Run

/-!
# What the reference computes
-/

@[expose] public section

noncomputable section

namespace Cert.Proof

open Idealize.ShloMosaic Cert.ReferenceIdeal Cert.ReferenceIdeal.Gen Cert.ReferenceIdeal.Value

variable (V : Valuation τ sig (Elt Ideal))

/-- The reference's vertices. -/
abbrev refVerts : S100000x3.Idx → EReal := V (Proc.devRef .tc main_arg4)

/-- The reference's vertical pixel coordinate. -/
theorem ref_row (i : Fin 100000) : res_main_v19 V (ix1 i) = ((rowPix (vertex (refVerts V) i) : ℝ) : EReal) := by
  pointwise [res_main_v19]
  rw [rowPix, coe_toReal_pixel, pixel]
  rfl

/-- The reference's horizontal pixel coordinate. -/
theorem ref_col (i : Fin 100000) : res_main_v20 V (ix1 i) = ((colPix (vertex (refVerts V) i) : ℝ) : EReal) := by
  pointwise [res_main_v20]
  rw [colPix, coe_toReal_pixel, pixel]
  rfl

/-- Five tables side by side, at a row and a lane. -/
theorem concat5 (a : S100000x3.Idx → EReal) (b : S100000x64.Idx → EReal) (c : S100000x128.Idx → EReal) (d : S100000x256.Idx → EReal)
    (e : S100000x512.Idx → EReal) (i : Fin 100000) (l : Fin 963) :
    concatenate S100000x963 1 [⟨S100000x3, a⟩, ⟨S100000x64, b⟩, ⟨S100000x128, c⟩, ⟨S100000x256, d⟩, ⟨S100000x512, e⟩]
      concatenates_S100000x3_S100000x64_S100000x128_S100000x256_S100000x512_S100000x963_d1 (ix2 i l)
      = if h : l.val < 3 then a (ix2 i ⟨l.val, h⟩)
        else if h : l.val < 67 then b (ix2 i ⟨l.val - 3, by omega⟩)
        else if h : l.val < 195 then c (ix2 i ⟨l.val - 67, by omega⟩)
        else if h : l.val < 451 then d (ix2 i ⟨l.val - 195, by omega⟩)
        else e (ix2 i ⟨l.val - 451, by omega⟩) := by
  pointwise []
  have r : ∀ {w : ℕ} (g : (⟨2, ![100000, w]⟩ : Shape).Idx → EReal) {p q : ℕ} (hp : p < w) (hq : q < w), p = q → g (ix2 i ⟨p, hp⟩) = g (ix2 i ⟨q, hq⟩) := by
    intro w g p q hp hq e; subst e; rfl
  have := l.isLt
  by_cases h0 : l.val < 3
  · rw [dif_pos h0, dif_pos h0]
  by_cases h1 : l.val < 67
  · rw [dif_neg h0, dif_neg h0, dif_pos (by omega), dif_pos h1]
  by_cases h2 : l.val < 195
  · rw [dif_neg h0, dif_neg h0, dif_neg (by omega), dif_neg h1, dif_pos (by omega), dif_pos h2]
    exact r c _ _ (by omega)
  by_cases h3 : l.val < 451
  · rw [dif_neg h0, dif_neg h0, dif_neg (by omega), dif_neg h1, dif_neg (by omega), dif_neg h2, dif_pos (by omega), dif_pos h3]
    exact r d _ _ (by omega)
  · rw [dif_neg h0, dif_neg h0, dif_neg (by omega), dif_neg h1, dif_neg (by omega), dif_neg h2, dif_neg (by omega), dif_neg h3]
    exact r e _ _ (by omega)

/-- ONE LEVEL OF THE REFERENCE: with the level's scaled coordinates `x`, `y` and their floors and ceilings as words, the
    interpolation is the bilinear value. -/
theorem ref_level {S C : ℕ} (hS : 0 < S) (wf₀ : RowTake S 100000 C) (wf₁ : RowTake 100000 100000 C) (b₁) (b₂) (T : FVec Ideal ⟨2, ![S, C]⟩ .f32)
    (A : S100000x3.Idx → EReal) (n : ℝ) (hn : 1 ≤ n) (x y : FVec Ideal S100000 .f32)
    (hx : ∀ i, x (ix1 i) = ((rowPix (vertex A i) / n : ℝ) : EReal)) (hy : ∀ i, y (ix1 i) = ((colPix (vertex A i) / n : ℝ) : EReal))
    (i : Fin 100000) (c : Fin C) :
    lerp wf₀ wf₁ b₁ b₂ T x y (fptosi 32 (Host.floor x)) (fptosi 32 (Host.ceil x)) (fptosi 32 (Host.floor y)) (fptosi 32 (Host.ceil y)) (ix2 i c)
      = bilinear (column hS T c) (fun j => vertexRow A j / n) (rowPix (vertex A i) / n) (colPix (vertex A i) / n) := by
  have n0 : 0 < n := lt_of_lt_of_le one_pos hn
  have hX : ∀ i, ⌈rowPix (vertex A i) / n⌉₊ < 2 ^ 31 := fun i => by
    have : ⌈rowPix (vertex A i) / n⌉₊ ≤ 223 := Nat.ceil_le.2 ((div_le_self (rowPix_nonneg _) hn).trans (by exact_mod_cast rowPix_le _))
    omega
  have hY : ∀ i, ⌈colPix (vertex A i) / n⌉₊ < 2 ^ 31 := fun i => by
    have : ⌈colPix (vertex A i) / n⌉₊ ≤ 223 := Nat.ceil_le.2 ((div_le_self (colPix_nonneg _) hn).trans (by exact_mod_cast colPix_le _))
    omega
  have fl : ∀ (z : FVec Ideal S100000 .f32) (u : ℝ), ∀ i, z (ix1 i) = ((u : ℝ) : EReal) → 0 ≤ u → ⌈u⌉₊ < 2 ^ 31 →
      fptosi 32 (Host.floor z) (ix1 i) = BitVec.ofNat 32 ⌊u⌋₊ := fun z u i hz hu hb => by
    show Ideal.fptosi 32 (Ideal.liftRound Int.floor (z (ix1 i))) = _
    rw [hz, floor_real u hu, fptosi_nat _ (lt_of_le_of_lt (Nat.floor_le_ceil _) hb)]
  have ce : ∀ (z : FVec Ideal S100000 .f32) (u : ℝ), ∀ i, z (ix1 i) = ((u : ℝ) : EReal) → 0 ≤ u → ⌈u⌉₊ < 2 ^ 31 →
      fptosi 32 (Host.ceil z) (ix1 i) = BitVec.ofNat 32 ⌈u⌉₊ := fun z u i hz hu hb => by
    show Ideal.fptosi 32 (Ideal.liftRound Int.ceil (z (ix1 i))) = _
    rw [hz, ceil_real u hu, fptosi_nat _ hb]
  have x0 : ∀ i, 0 ≤ rowPix (vertex A i) / n := fun i => div_nonneg (rowPix_nonneg _) n0.le
  have y0 : ∀ i, 0 ≤ colPix (vertex A i) / n := fun i => div_nonneg (colPix_nonneg _) n0.le
  exact lerp_apply hS (by norm_num) wf₀ wf₁ b₁ b₂ T x y _ _ _ _ (fun i => rowPix (vertex A i) / n) (fun i => colPix (vertex A i) / n) hx hy
    (fun i => fl x _ i (hx i) (x0 i) (hX i)) (fun i => ce x _ i (hx i) (x0 i) (hX i))
    (fun i => fl y _ i (hy i) (y0 i) (hY i)) (fun i => ce y _ i (hy i) (y0 i) (hY i)) hX hY i c

theorem ref_row0 (i : Fin 100000) : res_main_v22 V (ix1 i) = ((rowPix (vertex (refVerts V) i) / 4 : ℝ) : EReal) := by
  pointwise [res_main_v22]
  rw [ref_row, word_4]
  exact div_real _ _ (by norm_num)

theorem ref_col0 (i : Fin 100000) : res_main_v24 V (ix1 i) = ((colPix (vertex (refVerts V) i) / 4 : ℝ) : EReal) := by
  pointwise [res_main_v24]
  rw [ref_col, word_4]
  exact div_real _ _ (by norm_num)

theorem ref_row1 (i : Fin 100000) : res_main_v77 V (ix1 i) = ((rowPix (vertex (refVerts V) i) / 8 : ℝ) : EReal) := by
  pointwise [res_main_v77]
  rw [ref_row, word_8]
  exact div_real _ _ (by norm_num)

theorem ref_col1 (i : Fin 100000) : res_main_v79 V (ix1 i) = ((colPix (vertex (refVerts V) i) / 8 : ℝ) : EReal) := by
  pointwise [res_main_v79]
  rw [ref_col, word_8]
  exact div_real _ _ (by norm_num)

theorem ref_row2 (i : Fin 100000) : res_main_v132 V (ix1 i) = ((rowPix (vertex (refVerts V) i) / 16 : ℝ) : EReal) := by
  pointwise [res_main_v132]
  rw [ref_row, word_16]
  exact div_real _ _ (by norm_num)

theorem ref_col2 (i : Fin 100000) : res_main_v134 V (ix1 i) = ((colPix (vertex (refVerts V) i) / 16 : ℝ) : EReal) := by
  pointwise [res_main_v134]
  rw [ref_col, word_16]
  exact div_real _ _ (by norm_num)

theorem ref_row3 (i : Fin 100000) : res_main_v187 V (ix1 i) = ((rowPix (vertex (refVerts V) i) / 32 : ℝ) : EReal) := by
  pointwise [res_main_v187]
  rw [ref_row, word_32]
  exact div_real _ _ (by norm_num)

theorem ref_col3 (i : Fin 100000) : res_main_v189 V (ix1 i) = ((colPix (vertex (refVerts V) i) / 32 : ℝ) : EReal) := by
  pointwise [res_main_v189]
  rw [ref_col, word_32]
  exact div_real _ _ (by norm_num)

/-- The reference's result is the vertices beside the four levels' interpolations. -/
theorem ref_concat : res_main_v241 V = concatenate S100000x963 1 [⟨S100000x3, refVerts V⟩,
        ⟨S100000x64, lerp gather_S56x64_S100000x1_S100000x64_1_0_n_n_0_1_164_wf gather_S100000x64_S100000x1_S100000x64_1_0_n_n_0_1_164_wf bcast_S100000_S100000x1_0 bcast_S100000x1_S100000x64_0_1
          (V (Proc.devRef .tc main_arg0)) (res_main_v22 V) (res_main_v24 V) (fptosi 32 (Host.floor (res_main_v22 V))) (fptosi 32 (Host.ceil (res_main_v22 V))) (fptosi 32 (Host.floor (res_main_v24 V))) (fptosi 32 (Host.ceil (res_main_v24 V)))⟩,
        ⟨S100000x128, lerp gather_S28x128_S100000x1_S100000x128_1_0_n_n_0_1_1128_wf gather_S100000x128_S100000x1_S100000x128_1_0_n_n_0_1_1128_wf bcast_S100000_S100000x1_0 bcast_S100000x1_S100000x128_0_1
          (V (Proc.devRef .tc main_arg1)) (res_main_v77 V) (res_main_v79 V) (fptosi 32 (Host.floor (res_main_v77 V))) (fptosi 32 (Host.ceil (res_main_v77 V))) (fptosi 32 (Host.floor (res_main_v79 V))) (fptosi 32 (Host.ceil (res_main_v79 V)))⟩,
        ⟨S100000x256, lerp gather_S14x256_S100000x1_S100000x256_1_0_n_n_0_1_1256_wf gather_S100000x256_S100000x1_S100000x256_1_0_n_n_0_1_1256_wf bcast_S100000_S100000x1_0 bcast_S100000x1_S100000x256_0_1
          (V (Proc.devRef .tc main_arg2)) (res_main_v132 V) (res_main_v134 V) (fptosi 32 (Host.floor (res_main_v132 V))) (fptosi 32 (Host.ceil (res_main_v132 V))) (fptosi 32 (Host.floor (res_main_v134 V))) (fptosi 32 (Host.ceil (res_main_v134 V)))⟩,
        ⟨S100000x512, lerp gather_S7x512_S100000x1_S100000x512_1_0_n_n_0_1_1512_wf gather_S100000x512_S100000x1_S100000x512_1_0_n_n_0_1_1512_wf bcast_S100000_S100000x1_0 bcast_S100000x1_S100000x512_0_1
          (V (Proc.devRef .tc main_arg3)) (res_main_v187 V) (res_main_v189 V) (fptosi 32 (Host.floor (res_main_v187 V))) (fptosi 32 (Host.ceil (res_main_v187 V))) (fptosi 32 (Host.floor (res_main_v189 V))) (fptosi 32 (Host.ceil (res_main_v189 V)))⟩]
      concatenates_S100000x3_S100000x64_S100000x128_S100000x256_S100000x512_S100000x963_d1 := rfl

/-- THE REFERENCE'S RESULT at a row and a lane. -/
theorem ref_value (i : Fin 100000) (l : Fin 963) :
    res_main_v241 V (ix2 i l) = result (V (Proc.devRef .tc main_arg0)) (V (Proc.devRef .tc main_arg1)) (V (Proc.devRef .tc main_arg2))
      (V (Proc.devRef .tc main_arg3)) (V (Proc.devRef .tc main_arg4)) i l := by
  rw [ref_concat, concat5]
  unfold result rowOut
  split_ifs
  · rfl
  · exact ref_level _ _ _ _ _ _ (refVerts V) 4 (by norm_num) _ _ (ref_row0 V) (ref_col0 V) i _
  · exact ref_level _ _ _ _ _ _ (refVerts V) 8 (by norm_num) _ _ (ref_row1 V) (ref_col1 V) i _
  · exact ref_level _ _ _ _ _ _ (refVerts V) 16 (by norm_num) _ _ (ref_row2 V) (ref_col2 V) i _
  · exact ref_level _ _ _ _ _ _ (refVerts V) 32 (by norm_num) _ _ (ref_row3 V) (ref_col3 V) i _

end Cert.Proof

end
-- ==== Proof.lean ====
module

public import proofs.«01_k».proof.Defs
public import proofs.«01_k».proof.Proof.Array
public import proofs.«01_k».proof.Proof.RefValue
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The reference terminates with its arguments unchanged and every counter at zero: it declares no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩)
    (Cert.ReferenceIdeal.Value.run (F := Ideal) m g)

/-- THE EQUATION: from equal arguments, the array that the reference ends with is the array that the kernel's blocks compose. -/
theorem same_array (m : (ℓ : Loc Cert.KernelIdeal.nD Cert.KernelIdeal.τ Cert.KernelIdeal.sig) → Buf (Elt Ideal) ℓ)
    (c : Dev Cert.KernelIdeal.nD) (V : Valuation Cert.ReferenceIdeal.τ Cert.ReferenceIdeal.sig (Elt Ideal))
    (h0 : V (Proc.devRef .tc Cert.ReferenceIdeal.main_arg0) = m ((c.tc : Thread Cert.KernelIdeal.nD Cert.KernelIdeal.τ).loc Cert.KernelIdeal.main_arg0))
    (h1 : V (Proc.devRef .tc Cert.ReferenceIdeal.main_arg1) = m ((c.tc : Thread Cert.KernelIdeal.nD Cert.KernelIdeal.τ).loc Cert.KernelIdeal.main_arg1))
    (h2 : V (Proc.devRef .tc Cert.ReferenceIdeal.main_arg2) = m ((c.tc : Thread Cert.KernelIdeal.nD Cert.KernelIdeal.τ).loc Cert.KernelIdeal.main_arg2))
    (h3 : V (Proc.devRef .tc Cert.ReferenceIdeal.main_arg3) = m ((c.tc : Thread Cert.KernelIdeal.nD Cert.KernelIdeal.τ).loc Cert.KernelIdeal.main_arg3))
    (h4 : V (Proc.devRef .tc Cert.ReferenceIdeal.main_arg4) = m ((c.tc : Thread Cert.KernelIdeal.nD Cert.KernelIdeal.τ).loc Cert.KernelIdeal.main_arg4)) :
    Cert.ReferenceIdeal.Value.res_main_v241 (F := Ideal) V
      = (Cert.KernelIdeal.Gen.dats (F := Ideal) m 0 c).arrAt 8 Cert.KernelIdeal.cfg0.N := by
  funext y
  obtain ⟨i, l, rfl⟩ : ∃ (i : Fin 100000) (l : Fin 963), y = ix2 i l := ⟨y 0, y 1, eq_ix2 y⟩
  refine (ref_value V i l).trans ?_
  rw [h0, h1, h2, h3, h4]
  exact (array_value m c i l).symm

/-- Kernel and reference compute the same array over the extended reals. -/
theorem algebraic : Cert.algebraic_KernelIdeal_ReferenceIdeal (hKernelIdeal := Cert.KernelIdeal.Gen.facts)
    (hReferenceIdeal := Cert.ReferenceIdeal.Gen.facts) := fun m g m' g' _ hagree =>
  ⟨fun c => (Cert.KernelIdeal.Gen.dats (F := Ideal) m 0 c).arrAt 8 Cert.KernelIdeal.cfg0.N,
    Cert.KernelIdeal.Value.run_blocks (F := Ideal) m g,
    (θ_run Cert.ReferenceIdeal.defs _ _).mono
      (fun _ h c => ⟨(h c).1.trans (same_array m c _ (hagree c).1 (hagree c).2.1 (hagree c).2.2.1 (hagree c).2.2.2.1 (hagree c).2.2.2.2), (h c).2⟩)
      (Cert.ReferenceIdeal.Value.run (F := Ideal) m' g')⟩

/-- All five claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, trivial, algebraic⟩

end Cert.Proof

end
